-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S16x256x256 : Shape := ⟨3, ![16, 256, 256]⟩
abbrev S16x256x8192 : Shape := ⟨3, ![16, 256, 8192]⟩
abbrev S16 : Shape := ⟨1, ![16]⟩
abbrev S_ : Shape := ⟨0, ![]⟩
abbrev S256x2048 : Shape := ⟨2, ![256, 2048]⟩
abbrev S1x256x2048 : Shape := ⟨3, ![1, 256, 2048]⟩
abbrev S1x256x256 : Shape := ⟨3, ![1, 256, 256]⟩
abbrev S256x256 : Shape := ⟨2, ![256, 256]⟩
abbrev S256x4096 : Shape := ⟨2, ![256, 4096]⟩
abbrev S1x256x4096 : Shape := ⟨3, ![1, 256, 4096]⟩

abbrev nBuf : Space → Nat
  | .hbm => 5
  | .vmem => 5
  | .smem => 2
  | _ => 0

abbrev bufTy : (tb : Table) → Fin (tcTables nBuf tb) → BufTy
  | .hbm, ⟨0, _⟩ => ⟨S4096x256, .fp8e5m2⟩
  | .hbm, ⟨1, _⟩ => ⟨S256x8192, .fp8e5m2⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .fp8e5m2⟩
  | .local _ .vmem, ⟨1, _⟩ => ⟨S256x8192, .fp8e5m2⟩
  | .local _ .vmem, ⟨2, _⟩ => ⟨S256x8192, .f32⟩
  | .local _ .vmem, ⟨3, _⟩ => ⟨S16x256x256, .fp8e5m2⟩
  | .local _ .vmem, ⟨4, _⟩ => ⟨S16x256x8192, .fp8e5m2⟩
  | .local _ .smem, ⟨0, _⟩ => ⟨S1, .f32⟩
  | .local _ .smem, ⟨1, _⟩ => ⟨S1, .f32⟩
  | _, _ => ⟨S4096x256, .fp8e5m2⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 165 → Bool
  | ⟨i, _⟩ => dmaSemScopedAt i

abbrev sig : RefSig :=
  (ofTc nBuf bufTy 1 165 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_52 : BitVec 32 := 1#32
  let v86 : BitVec 32 := Scalar.addi v2 c1_i32_52
  let c16_i32_53 : BitVec 32 := 16#32
  let v87 : BitVec 32 := Scalar.remsi v86 c16_i32_53
  let c1_i32_55 : BitVec 32 := 1#32
  let v88 : BitVec 32 := Scalar.muli v87 c1_i32_55
  let v89 : BitVec 32 := Scalar.addi c0_i32_56 v88
  v89.toNat
def k0_dev2 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_57 : BitVec 32 := 2#32
  let v90 : BitVec 32 := Scalar.addi v2 c2_i32_57
  let c16_i32_58 : BitVec 32 := 16#32
  let v91 : BitVec 32 := Scalar.remsi v90 c16_i32_58
  let c1_i32_60 : BitVec 32 := 1#32
  let v92 : BitVec 32 := Scalar.muli v91 c1_i32_60
  let v93 : BitVec 32 := Scalar.addi c0_i32_61 v92
  v93.toNat
def k0_dev3 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_62 : BitVec 32 := 3#32
  let v94 : BitVec 32 := Scalar.addi v2 c3_i32_62
  let c16_i32_63 : BitVec 32 := 16#32
  let v95 : BitVec 32 := Scalar.remsi v94 c16_i32_63
  let c1_i32_65 : BitVec 32 := 1#32
  let v96 : BitVec 32 := Scalar.muli v95 c1_i32_65
  let v97 : BitVec 32 := Scalar.addi c0_i32_66 v96
  v97.toNat
def k0_dev4 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_67 : BitVec 32 := 4#32
  let v98 : BitVec 32 := Scalar.addi v2 c4_i32_67
  let c16_i32_68 : BitVec 32 := 16#32
  let v99 : BitVec 32 := Scalar.remsi v98 c16_i32_68
  let c1_i32_70 : BitVec 32 := 1#32
  let v100 : BitVec 32 := Scalar.muli v99 c1_i32_70
  let v101 : BitVec 32 := Scalar.addi c0_i32_71 v100
  v101.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v102 : BitVec 32 := Scalar.addi v2 c5_i32
  let c16_i32_72 : BitVec 32 := 16#32
  let v103 : BitVec 32 := Scalar.remsi v102 c16_i32_72
  let c1_i32_74 : BitVec 32 := 1#32
  let v104 : BitVec 32 := Scalar.muli v103 c1_i32_74
  let v105 : BitVec 32 := Scalar.addi c0_i32_75 v104
  v105.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v106 : BitVec 32 := Scalar.addi v2 c6_i32
  let c16_i32_76 : BitVec 32 := 16#32
  let v107 : BitVec 32 := Scalar.remsi v106 c16_i32_76
  let c1_i32_78 : BitVec 32 := 1#32
  let v108 : BitVec 32 := Scalar.muli v107 c1_i32_78
  let v109 : BitVec 32 := Scalar.addi c0_i32_79 v108
  v109.toNat
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v110 : BitVec 32 := Scalar.addi v2 c7_i32
  let c16_i32_80 : BitVec 32 := 16#32
  let v111 : BitVec 32 := Scalar.remsi v110 c16_i32_80
  let c1_i32_82 : BitVec 32 := 1#32
  let v112 : BitVec 32 := Scalar.muli v111 c1_i32_82
  let v113 : BitVec 32 := Scalar.addi c0_i32_83 v112
  v113.toNat
def k0_dev8 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_84 : BitVec 32 := 8#32
  let v114 : BitVec 32 := Scalar.addi v2 c8_i32_84
  let c16_i32_85 : BitVec 32 := 16#32
  let v115 : BitVec 32 := Scalar.remsi v114 c16_i32_85
  let c1_i32_87 : BitVec 32 := 1#32
  let v116 : BitVec 32 := Scalar.muli v115 c1_i32_87
  let v117 : BitVec 32 := Scalar.addi c0_i32_88 v116
  v117.toNat
def k0_dev9 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_89 : BitVec 32 := 9#32
  let v118 : BitVec 32 := Scalar.addi v2 c9_i32_89
  let c16_i32_90 : BitVec 32 := 16#32
  let v119 : BitVec 32 := Scalar.remsi v118 c16_i32_90
  let c1_i32_92 : BitVec 32 := 1#32
  let v120 : BitVec 32 := Scalar.muli v119 c1_i32_92
  let v121 : BitVec 32 := Scalar.addi c0_i32_93 v120
  v121.toNat
def k0_dev10 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v122 : BitVec 32 := Scalar.addi v2 c10_i32
  let c16_i32_94 : BitVec 32 := 16#32
  let v123 : BitVec 32 := Scalar.remsi v122 c16_i32_94
  let c1_i32_96 : BitVec 32 := 1#32
  let v124 : BitVec 32 := Scalar.muli v123 c1_i32_96
  let v125 : BitVec 32 := Scalar.addi c0_i32_97 v124
  v125.toNat
def k0_dev11 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v126 : BitVec 32 := Scalar.addi v2 c11_i32
  let c16_i32_98 : BitVec 32 := 16#32
  let v127 : BitVec 32 := Scalar.remsi v126 c16_i32_98
  let c1_i32_100 : BitVec 32 := 1#32
  let v128 : BitVec 32 := Scalar.muli v127 c1_i32_100
  let v129 : BitVec 32 := Scalar.addi c0_i32_101 v128
  v129.toNat
def k0_dev12 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_102 : BitVec 32 := 12#32
  let v130 : BitVec 32 := Scalar.addi v2 c12_i32_102
  let c16_i32_103 : BitVec 32 := 16#32
  let v131 : BitVec 32 := Scalar.remsi v130 c16_i32_103
  let c1_i32_105 : BitVec 32 := 1#32
  let v132 : BitVec 32 := Scalar.muli v131 c1_i32_105
  let v133 : BitVec 32 := Scalar.addi c0_i32_106 v132
  v133.toNat
def k0_dev13 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v134 : BitVec 32 := Scalar.addi v2 c13_i32
  let c16_i32_107 : BitVec 32 := 16#32
  let v135 : BitVec 32 := Scalar.remsi v134 c16_i32_107
  let c1_i32_109 : BitVec 32 := 1#32
  let v136 : BitVec 32 := Scalar.muli v135 c1_i32_109
  let v137 : BitVec 32 := Scalar.addi c0_i32_110 v136
  v137.toNat
def k0_dev14 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v138 : BitVec 32 := Scalar.addi v2 c14_i32
  let c16_i32_111 : BitVec 32 := 16#32
  let v139 : BitVec 32 := Scalar.remsi v138 c16_i32_111
  let c1_i32_113 : BitVec 32 := 1#32
  let v140 : BitVec 32 := Scalar.muli v139 c1_i32_113
  let v141 : BitVec 32 := Scalar.addi c0_i32_114 v140
  v141.toNat
def k0_dev15 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v142 : BitVec 32 := Scalar.addi v2 c15_i32
  let c16_i32_115 : BitVec 32 := 16#32
  let v143 : BitVec 32 := Scalar.remsi v142 c16_i32_115
  let c1_i32_117 : BitVec 32 := 1#32
  let v144 : BitVec 32 := Scalar.muli v143 c1_i32_117
  let v145 : BitVec 32 := Scalar.addi c0_i32_118 v144
  v145.toNat
def k0_dev16 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_130 : BitVec 32 := 1#32
  let v154 : BitVec 32 := Scalar.muli v62 c1_i32_130
  let v155 : BitVec 32 := Scalar.addi c0_i32_131 v154
  v155.toNat
def k0_dev17 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_144 : BitVec 32 := 1#32
  let v169 : BitVec 32 := Scalar.muli v84 c1_i32_144
  let v170 : BitVec 32 := Scalar.addi c0_i32_145 v169
  v170.toNat
def k0_dev18 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_157 : BitVec 32 := 1#32
  let v184 : BitVec 32 := Scalar.muli v62 c1_i32_157
  let v185 : BitVec 32 := Scalar.addi c0_i32_158 v184
  v185.toNat
def k0_dev19 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_170 : BitVec 32 := 1#32
  let v199 : BitVec 32 := Scalar.muli v84 c1_i32_170
  let v200 : BitVec 32 := Scalar.addi c0_i32_171 v199
  v200.toNat
def k0_off1 (d0 : Dev nD) (c1_i32_175 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let v209 : BitVec 32 := Scalar.addi v41 c1_i32_175
  let c16_i32_176 : BitVec 32 := 16#32
  let v210 : BitVec 32 := Scalar.remsi v209 c16_i32_176
  let c0_i32_177 : BitVec 32 := 0#32
  let v211 : BitVec 1 := Scalar.cmpi .eq v210 c0_i32_177
  let c0_i32_192 : BitVec 32 := 0#32
  let c4_i32_178 : BitVec 32 := 4#32
  let v212 : BitVec 1 := Scalar.cmpi .sle v210 c4_i32_178
  let c4_i32_180 : BitVec 32 := 4#32
  let c1_i32_179 : BitVec 32 := 1#32
  let v213 : BitVec 32 := Scalar.subi v210 c1_i32_179
  let v214 : BitVec 32 := Scalar.muli c4_i32_180 v213
  let c1_i32_181 : BitVec 32 := 1#32
  let v215 : BitVec 32 := Scalar.addi v214 c1_i32_181
  let c8_i32_182 : BitVec 32 := 8#32
  let v216 : BitVec 1 := Scalar.cmpi .sle v210 c8_i32_182
  let c4_i32_184 : BitVec 32 := 4#32
  let c8_i32_183 : BitVec 32 := 8#32
  let v217 : BitVec 32 := Scalar.subi c8_i32_183 v210
  let v218 : BitVec 32 := Scalar.muli c4_i32_184 v217
  let c2_i32_185 : BitVec 32 := 2#32
  let v219 : BitVec 32 := Scalar.addi v218 c2_i32_185
  let c12_i32_186 : BitVec 32 := 12#32
  let v220 : BitVec 1 := Scalar.cmpi .sle v210 c12_i32_186
  let c4_i32_188 : BitVec 32 := 4#32
  let c9_i32_187 : BitVec 32 := 9#32
  let v221 : BitVec 32 := Scalar.subi v210 c9_i32_187
  let v222 : BitVec 32 := Scalar.muli c4_i32_188 v221
  let c3_i32_189 : BitVec 32 := 3#32
  let v223 : BitVec 32 := Scalar.addi v222 c3_i32_189
  let c4_i32_191 : BitVec 32 := 4#32
  let c16_i32_190 : BitVec 32 := 16#32
  let v224 : BitVec 32 := Scalar.subi c16_i32_190 v210
  let v225 : BitVec 32 := Scalar.muli c4_i32_191 v224
  let v226 : BitVec 32 := Scalar.select v220 v223 v225
  let v227 : BitVec 32 := Scalar.select v216 v219 v226
  let v228 : BitVec 32 := Scalar.select v212 v215 v227
  let v229 : BitVec 32 := Scalar.select v211 c0_i32_192 v228
  let c256_i32 : BitVec 32 := 256#32
  let v230 : BitVec 32 := Scalar.muli v229 c256_i32
  let c0_i32_200 : BitVec 32 := 0#32
  ![v230.toNat, 0]
def k0_dev20 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_175 : BitVec 32 := 1#32
  let v209 : BitVec 32 := Scalar.addi v41 c1_i32_175
  let c16_i32_176 : BitVec 32 := 16#32
  let v210 : BitVec 32 := Scalar.remsi v209 c16_i32_176
  let c0_i32_177 : BitVec 32 := 0#32
  let v211 : BitVec 1 := Scalar.cmpi .eq v210 c0_i32_177
  let c0_i32_192 : BitVec 32 := 0#32
  let c4_i32_178 : BitVec 32 := 4#32
  let v212 : BitVec 1 := Scalar.cmpi .sle v210 c4_i32_178
  let c4_i32_180 : BitVec 32 := 4#32
  let c1_i32_179 : BitVec 32 := 1#32
  let v213 : BitVec 32 := Scalar.subi v210 c1_i32_179
  let v214 : BitVec 32 := Scalar.muli c4_i32_180 v213
  let c1_i32_181 : BitVec 32 := 1#32
  let v215 : BitVec 32 := Scalar.addi v214 c1_i32_181
  let c8_i32_182 : BitVec 32 := 8#32
  let v216 : BitVec 1 := Scalar.cmpi .sle v210 c8_i32_182
  let c4_i32_184 : BitVec 32 := 4#32
  let c8_i32_183 : BitVec 32 := 8#32
  let v217 : BitVec 32 := Scalar.subi c8_i32_183 v210
  let v218 : BitVec 32 := Scalar.muli c4_i32_184 v217
  let c2_i32_185 : BitVec 32 := 2#32
  let v219 : BitVec 32 := Scalar.addi v218 c2_i32_185
  let c12_i32_186 : BitVec 32 := 12#32
  let v220 : BitVec 1 := Scalar.cmpi .sle v210 c12_i32_186
  let c4_i32_188 : BitVec 32 := 4#32
  let c9_i32_187 : BitVec 32 := 9#32
  let v221 : BitVec 32 := Scalar.subi v210 c9_i32_187
  let v222 : BitVec 32 := Scalar.muli c4_i32_188 v221
  let c3_i32_189 : BitVec 32 := 3#32
  let v223 : BitVec 32 := Scalar.addi v222 c3_i32_189
  let c4_i32_191 : BitVec 32 := 4#32
  let c16_i32_190 : BitVec 32 := 16#32
  let v224 : BitVec 32 := Scalar.subi c16_i32_190 v210
  let v225 : BitVec 32 := Scalar.muli c4_i32_191 v224
  let v226 : BitVec 32 := Scalar.select v220 v223 v225
  let v227 : BitVec 32 := Scalar.select v216 v219 v226
  let v228 : BitVec 32 := Scalar.select v212 v215 v227
  let v229 : BitVec 32 := Scalar.select v211 c0_i32_192 v228
  let c1_i32_196 : BitVec 32 := 1#32
  let v231 : BitVec 32 := Scalar.muli v229 c1_i32_196
  let v232 : BitVec 32 := Scalar.addi c0_i32_197 v231
  v232.toNat
def k0_dev21 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c2_i32_201 : BitVec 32 := 2#32
  let v240 : BitVec 32 := Scalar.addi v41 c2_i32_201
  let c16_i32_202 : BitVec 32 := 16#32
  let v241 : BitVec 32 := Scalar.remsi v240 c16_i32_202
  let c0_i32_203 : BitVec 32 := 0#32
  let v242 : BitVec 1 := Scalar.cmpi .eq v241 c0_i32_203
  let c0_i32_218 : BitVec 32 := 0#32
  let c4_i32_204 : BitVec 32 := 4#32
  let v243 : BitVec 1 := Scalar.cmpi .sle v241 c4_i32_204
  let c4_i32_206 : BitVec 32 := 4#32
  let c1_i32_205 : BitVec 32 := 1#32
  let v244 : BitVec 32 := Scalar.subi v241 c1_i32_205
  let v245 : BitVec 32 := Scalar.muli c4_i32_206 v244
  let c1_i32_207 : BitVec 32 := 1#32
  let v246 : BitVec 32 := Scalar.addi v245 c1_i32_207
  let c8_i32_208 : BitVec 32 := 8#32
  let v247 : BitVec 1 := Scalar.cmpi .sle v241 c8_i32_208
  let c4_i32_210 : BitVec 32 := 4#32
  let c8_i32_209 : BitVec 32 := 8#32
  let v248 : BitVec 32 := Scalar.subi c8_i32_209 v241
  let v249 : BitVec 32 := Scalar.muli c4_i32_210 v248
  let c2_i32_211 : BitVec 32 := 2#32
  let v250 : BitVec 32 := Scalar.addi v249 c2_i32_211
  let c12_i32_212 : BitVec 32 := 12#32
  let v251 : BitVec 1 := Scalar.cmpi .sle v241 c12_i32_212
  let c4_i32_214 : BitVec 32 := 4#32
  let c9_i32_213 : BitVec 32 := 9#32
  let v252 : BitVec 32 := Scalar.subi v241 c9_i32_213
  let v253 : BitVec 32 := Scalar.muli c4_i32_214 v252
  let c3_i32_215 : BitVec 32 := 3#32
  let v254 : BitVec 32 := Scalar.addi v253 c3_i32_215
  let c4_i32_217 : BitVec 32 := 4#32
  let c16_i32_216 : BitVec 32 := 16#32
  let v255 : BitVec 32 := Scalar.subi c16_i32_216 v241
  let v256 : BitVec 32 := Scalar.muli c4_i32_217 v255
  let v257 : BitVec 32 := Scalar.select v251 v254 v256
  let v258 : BitVec 32 := Scalar.select v247 v250 v257
  let v259 : BitVec 32 := Scalar.select v243 v246 v258
  let v260 : BitVec 32 := Scalar.select v242 c0_i32_218 v259
  let c1_i32_223 : BitVec 32 := 1#32
  let v262 : BitVec 32 := Scalar.muli v260 c1_i32_223
  let v263 : BitVec 32 := Scalar.addi c0_i32_224 v262
  v263.toNat
def k0_dev22 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c3_i32_228 : BitVec 32 := 3#32
  let v271 : BitVec 32 := Scalar.addi v41 c3_i32_228
  let c16_i32_229 : BitVec 32 := 16#32
  let v272 : BitVec 32 := Scalar.remsi v271 c16_i32_229
  let c0_i32_230 : BitVec 32 := 0#32
  let v273 : BitVec 1 := Scalar.cmpi .eq v272 c0_i32_230
  let c0_i32_245 : BitVec 32 := 0#32
  let c4_i32_231 : BitVec 32 := 4#32
  let v274 : BitVec 1 := Scalar.cmpi .sle v272 c4_i32_231
  let c4_i32_233 : BitVec 32 := 4#32
  let c1_i32_232 : BitVec 32 := 1#32
  let v275 : BitVec 32 := Scalar.subi v272 c1_i32_232
  let v276 : BitVec 32 := Scalar.muli c4_i32_233 v275
  let c1_i32_234 : BitVec 32 := 1#32
  let v277 : BitVec 32 := Scalar.addi v276 c1_i32_234
  let c8_i32_235 : BitVec 32 := 8#32
  let v278 : BitVec 1 := Scalar.cmpi .sle v272 c8_i32_235
  let c4_i32_237 : BitVec 32 := 4#32
  let c8_i32_236 : BitVec 32 := 8#32
  let v279 : BitVec 32 := Scalar.subi c8_i32_236 v272
  let v280 : BitVec 32 := Scalar.muli c4_i32_237 v279
  let c2_i32_238 : BitVec 32 := 2#32
  let v281 : BitVec 32 := Scalar.addi v280 c2_i32_238
  let c12_i32_239 : BitVec 32 := 12#32
  let v282 : BitVec 1 := Scalar.cmpi .sle v272 c12_i32_239
  let c4_i32_241 : BitVec 32 := 4#32
  let c9_i32_240 : BitVec 32 := 9#32
  let v283 : BitVec 32 := Scalar.subi v272 c9_i32_240
  let v284 : BitVec 32 := Scalar.muli c4_i32_241 v283
  let c3_i32_242 : BitVec 32 := 3#32
  let v285 : BitVec 32 := Scalar.addi v284 c3_i32_242
  let c4_i32_244 : BitVec 32 := 4#32
  let c16_i32_243 : BitVec 32 := 16#32
  let v286 : BitVec 32 := Scalar.subi c16_i32_243 v272
  let v287 : BitVec 32 := Scalar.muli c4_i32_244 v286
  let v288 : BitVec 32 := Scalar.select v282 v285 v287
  let v289 : BitVec 32 := Scalar.select v278 v281 v288
  let v290 : BitVec 32 := Scalar.select v274 v277 v289
  let v291 : BitVec 32 := Scalar.select v273 c0_i32_245 v290
  let c1_i32_250 : BitVec 32 := 1#32
  let v293 : BitVec 32 := Scalar.muli v291 c1_i32_250
  let v294 : BitVec 32 := Scalar.addi c0_i32_251 v293
  v294.toNat
def k0_dev23 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c4_i32_255 : BitVec 32 := 4#32
  let v302 : BitVec 32 := Scalar.addi v41 c4_i32_255
  let c16_i32_256 : BitVec 32 := 16#32
  let v303 : BitVec 32 := Scalar.remsi v302 c16_i32_256
  let c0_i32_257 : BitVec 32 := 0#32
  let v304 : BitVec 1 := Scalar.cmpi .eq v303 c0_i32_257
  let c0_i32_272 : BitVec 32 := 0#32
  let c4_i32_258 : BitVec 32 := 4#32
  let v305 : BitVec 1 := Scalar.cmpi .sle v303 c4_i32_258
  let c4_i32_260 : BitVec 32 := 4#32
  let c1_i32_259 : BitVec 32 := 1#32
  let v306 : BitVec 32 := Scalar.subi v303 c1_i32_259
  let v307 : BitVec 32 := Scalar.muli c4_i32_260 v306
  let c1_i32_261 : BitVec 32 := 1#32
  let v308 : BitVec 32 := Scalar.addi v307 c1_i32_261
  let c8_i32_262 : BitVec 32 := 8#32
  let v309 : BitVec 1 := Scalar.cmpi .sle v303 c8_i32_262
  let c4_i32_264 : BitVec 32 := 4#32
  let c8_i32_263 : BitVec 32 := 8#32
  let v310 : BitVec 32 := Scalar.subi c8_i32_263 v303
  let v311 : BitVec 32 := Scalar.muli c4_i32_264 v310
  let c2_i32_265 : BitVec 32 := 2#32
  let v312 : BitVec 32 := Scalar.addi v311 c2_i32_265
  let c12_i32_266 : BitVec 32 := 12#32
  let v313 : BitVec 1 := Scalar.cmpi .sle v303 c12_i32_266
  let c4_i32_268 : BitVec 32 := 4#32
  let c9_i32_267 : BitVec 32 := 9#32
  let v314 : BitVec 32 := Scalar.subi v303 c9_i32_267
  let v315 : BitVec 32 := Scalar.muli c4_i32_268 v314
  let c3_i32_269 : BitVec 32 := 3#32
  let v316 : BitVec 32 := Scalar.addi v315 c3_i32_269
  let c4_i32_271 : BitVec 32 := 4#32
  let c16_i32_270 : BitVec 32 := 16#32
  let v317 : BitVec 32 := Scalar.subi c16_i32_270 v303
  let v318 : BitVec 32 := Scalar.muli c4_i32_271 v317
  let v319 : BitVec 32 := Scalar.select v313 v316 v318
  let v320 : BitVec 32 := Scalar.select v309 v312 v319
  let v321 : BitVec 32 := Scalar.select v305 v308 v320
  let v322 : BitVec 32 := Scalar.select v304 c0_i32_272 v321
  let c1_i32_277 : BitVec 32 := 1#32
  let v324 : BitVec 32 := Scalar.muli v322 c1_i32_277
  let v325 : BitVec 32 := Scalar.addi c0_i32_278 v324
  v325.toNat
def k0_dev24 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c5_i32_282 : BitVec 32 := 5#32
  let v333 : BitVec 32 := Scalar.addi v41 c5_i32_282
  let c16_i32_283 : BitVec 32 := 16#32
  let v334 : BitVec 32 := Scalar.remsi v333 c16_i32_283
  let c0_i32_284 : BitVec 32 := 0#32
  let v335 : BitVec 1 := Scalar.cmpi .eq v334 c0_i32_284
  let c0_i32_299 : BitVec 32 := 0#32
  let c4_i32_285 : BitVec 32 := 4#32
  let v336 : BitVec 1 := Scalar.cmpi .sle v334 c4_i32_285
  let c4_i32_287 : BitVec 32 := 4#32
  let c1_i32_286 : BitVec 32 := 1#32
  let v337 : BitVec 32 := Scalar.subi v334 c1_i32_286
  let v338 : BitVec 32 := Scalar.muli c4_i32_287 v337
  let c1_i32_288 : BitVec 32 := 1#32
  let v339 : BitVec 32 := Scalar.addi v338 c1_i32_288
  let c8_i32_289 : BitVec 32 := 8#32
  let v340 : BitVec 1 := Scalar.cmpi .sle v334 c8_i32_289
  let c4_i32_291 : BitVec 32 := 4#32
  let c8_i32_290 : BitVec 32 := 8#32
  let v341 : BitVec 32 := Scalar.subi c8_i32_290 v334
  let v342 : BitVec 32 := Scalar.muli c4_i32_291 v341
  let c2_i32_292 : BitVec 32 := 2#32
  let v343 : BitVec 32 := Scalar.addi v342 c2_i32_292
  let c12_i32_293 : BitVec 32 := 12#32
  let v344 : BitVec 1 := Scalar.cmpi .sle v334 c12_i32_293
  let c4_i32_295 : BitVec 32 := 4#32
  let c9_i32_294 : BitVec 32 := 9#32
  let v345 : BitVec 32 := Scalar.subi v334 c9_i32_294
  let v346 : BitVec 32 := Scalar.muli c4_i32_295 v345
  let c3_i32_296 : BitVec 32 := 3#32
  let v347 : BitVec 32 := Scalar.addi v346 c3_i32_296
  let c4_i32_298 : BitVec 32 := 4#32
  let c16_i32_297 : BitVec 32 := 16#32
  let v348 : BitVec 32 := Scalar.subi c16_i32_297 v334
  let v349 : BitVec 32 := Scalar.muli c4_i32_298 v348
  let v350 : BitVec 32 := Scalar.select v344 v347 v349
  let v351 : BitVec 32 := Scalar.select v340 v343 v350
  let v352 : BitVec 32 := Scalar.select v336 v339 v351
  let v353 : BitVec 32 := Scalar.select v335 c0_i32_299 v352
  let c1_i32_304 : BitVec 32 := 1#32
  let v355 : BitVec 32 := Scalar.muli v353 c1_i32_304
  let v356 : BitVec 32 := Scalar.addi c0_i32_305 v355
  v356.toNat
def k0_dev25 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c6_i32_309 : BitVec 32 := 6#32
  let v364 : BitVec 32 := Scalar.addi v41 c6_i32_309
  let c16_i32_310 : BitVec 32 := 16#32
  let v365 : BitVec 32 := Scalar.remsi v364 c16_i32_310
  let c0_i32_311 : BitVec 32 := 0#32
  let v366 : BitVec 1 := Scalar.cmpi .eq v365 c0_i32_311
  let c0_i32_326 : BitVec 32 := 0#32
  let c4_i32_312 : BitVec 32 := 4#32
  let v367 : BitVec 1 := Scalar.cmpi .sle v365 c4_i32_312
  let c4_i32_314 : BitVec 32 := 4#32
  let c1_i32_313 : BitVec 32 := 1#32
  let v368 : BitVec 32 := Scalar.subi v365 c1_i32_313
  let v369 : BitVec 32 := Scalar.muli c4_i32_314 v368
  let c1_i32_315 : BitVec 32 := 1#32
  let v370 : BitVec 32 := Scalar.addi v369 c1_i32_315
  let c8_i32_316 : BitVec 32 := 8#32
  let v371 : BitVec 1 := Scalar.cmpi .sle v365 c8_i32_316
  let c4_i32_318 : BitVec 32 := 4#32
  let c8_i32_317 : BitVec 32 := 8#32
  let v372 : BitVec 32 := Scalar.subi c8_i32_317 v365
  let v373 : BitVec 32 := Scalar.muli c4_i32_318 v372
  let c2_i32_319 : BitVec 32 := 2#32
  let v374 : BitVec 32 := Scalar.addi v373 c2_i32_319
  let c12_i32_320 : BitVec 32 := 12#32
  let v375 : BitVec 1 := Scalar.cmpi .sle v365 c12_i32_320
  let c4_i32_322 : BitVec 32 := 4#32
  let c9_i32_321 : BitVec 32 := 9#32
  let v376 : BitVec 32 := Scalar.subi v365 c9_i32_321
  let v377 : BitVec 32 := Scalar.muli c4_i32_322 v376
  let c3_i32_323 : BitVec 32 := 3#32
  let v378 : BitVec 32 := Scalar.addi v377 c3_i32_323
  let c4_i32_325 : BitVec 32 := 4#32
  let c16_i32_324 : BitVec 32 := 16#32
  let v379 : BitVec 32 := Scalar.subi c16_i32_324 v365
  let v380 : BitVec 32 := Scalar.muli c4_i32_325 v379
  let v381 : BitVec 32 := Scalar.select v375 v378 v380
  let v382 : BitVec 32 := Scalar.select v371 v374 v381
  let v383 : BitVec 32 := Scalar.select v367 v370 v382
  let v384 : BitVec 32 := Scalar.select v366 c0_i32_326 v383
  let c1_i32_331 : BitVec 32 := 1#32
  let v386 : BitVec 32 := Scalar.muli v384 c1_i32_331
  let v387 : BitVec 32 := Scalar.addi c0_i32_332 v386
  v387.toNat
def k0_dev26 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c7_i32_336 : BitVec 32 := 7#32
  let v395 : BitVec 32 := Scalar.addi v41 c7_i32_336
  let c16_i32_337 : BitVec 32 := 16#32
  let v396 : BitVec 32 := Scalar.remsi v395 c16_i32_337
  let c0_i32_338 : BitVec 32 := 0#32
  let v397 : BitVec 1 := Scalar.cmpi .eq v396 c0_i32_338
  let c0_i32_353 : BitVec 32 := 0#32
  let c4_i32_339 : BitVec 32 := 4#32
  let v398 : BitVec 1 := Scalar.cmpi .sle v396 c4_i32_339
  let c4_i32_341 : BitVec 32 := 4#32
  let c1_i32_340 : BitVec 32 := 1#32
  let v399 : BitVec 32 := Scalar.subi v396 c1_i32_340
  let v400 : BitVec 32 := Scalar.muli c4_i32_341 v399
  let c1_i32_342 : BitVec 32 := 1#32
  let v401 : BitVec 32 := Scalar.addi v400 c1_i32_342
  let c8_i32_343 : BitVec 32 := 8#32
  let v402 : BitVec 1 := Scalar.cmpi .sle v396 c8_i32_343
  let c4_i32_345 : BitVec 32 := 4#32
  let c8_i32_344 : BitVec 32 := 8#32
  let v403 : BitVec 32 := Scalar.subi c8_i32_344 v396
  let v404 : BitVec 32 := Scalar.muli c4_i32_345 v403
  let c2_i32_346 : BitVec 32 := 2#32
  let v405 : BitVec 32 := Scalar.addi v404 c2_i32_346
  let c12_i32_347 : BitVec 32 := 12#32
  let v406 : BitVec 1 := Scalar.cmpi .sle v396 c12_i32_347
  let c4_i32_349 : BitVec 32 := 4#32
  let c9_i32_348 : BitVec 32 := 9#32
  let v407 : BitVec 32 := Scalar.subi v396 c9_i32_348
  let v408 : BitVec 32 := Scalar.muli c4_i32_349 v407
  let c3_i32_350 : BitVec 32 := 3#32
  let v409 : BitVec 32 := Scalar.addi v408 c3_i32_350
  let c4_i32_352 : BitVec 32 := 4#32
  let c16_i32_351 : BitVec 32 := 16#32
  let v410 : BitVec 32 := Scalar.subi c16_i32_351 v396
  let v411 : BitVec 32 := Scalar.muli c4_i32_352 v410
  let v412 : BitVec 32 := Scalar.select v406 v409 v411
  let v413 : BitVec 32 := Scalar.select v402 v405 v412
  let v414 : BitVec 32 := Scalar.select v398 v401 v413
  let v415 : BitVec 32 := Scalar.select v397 c0_i32_353 v414
  let c1_i32_358 : BitVec 32 := 1#32
  let v417 : BitVec 32 := Scalar.muli v415 c1_i32_358
  let v418 : BitVec 32 := Scalar.addi c0_i32_359 v417
  v418.toNat
def k0_dev27 (d0 : Dev nD) : Nat :=
  let c0_i32_386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c8_i32_363 : BitVec 32 := 8#32
  let v426 : BitVec 32 := Scalar.addi v41 c8_i32_363
  let c16_i32_364 : BitVec 32 := 16#32
  let v427 : BitVec 32 := Scalar.remsi v426 c16_i32_364
  let c0_i32_365 : BitVec 32 := 0#32
  let v428 : BitVec 1 := Scalar.cmpi .eq v427 c0_i32_365
  let c0_i32_380 : BitVec 32 := 0#32
  let c4_i32_366 : BitVec 32 := 4#32
  let v429 : BitVec 1 := Scalar.cmpi .sle v427 c4_i32_366
  let c4_i32_368 : BitVec 32 := 4#32
  let c1_i32_367 : BitVec 32 := 1#32
  let v430 : BitVec 32 := Scalar.subi v427 c1_i32_367
  let v431 : BitVec 32 := Scalar.muli c4_i32_368 v430
  let c1_i32_369 : BitVec 32 := 1#32
  let v432 : BitVec 32 := Scalar.addi v431 c1_i32_369
  let c8_i32_370 : BitVec 32 := 8#32
  let v433 : BitVec 1 := Scalar.cmpi .sle v427 c8_i32_370
  let c4_i32_372 : BitVec 32 := 4#32
  let c8_i32_371 : BitVec 32 := 8#32
  let v434 : BitVec 32 := Scalar.subi c8_i32_371 v427
  let v435 : BitVec 32 := Scalar.muli c4_i32_372 v434
  let c2_i32_373 : BitVec 32 := 2#32
  let v436 : BitVec 32 := Scalar.addi v435 c2_i32_373
  let c12_i32_374 : BitVec 32 := 12#32
  let v437 : BitVec 1 := Scalar.cmpi .sle v427 c12_i32_374
  let c4_i32_376 : BitVec 32 := 4#32
  let c9_i32_375 : BitVec 32 := 9#32
  let v438 : BitVec 32 := Scalar.subi v427 c9_i32_375
  let v439 : BitVec 32 := Scalar.muli c4_i32_376 v438
  let c3_i32_377 : BitVec 32 := 3#32
  let v440 : BitVec 32 := Scalar.addi v439 c3_i32_377
  let c4_i32_379 : BitVec 32 := 4#32
  let c16_i32_378 : BitVec 32 := 16#32
  let v441 : BitVec 32 := Scalar.subi c16_i32_378 v427
  let v442 : BitVec 32 := Scalar.muli c4_i32_379 v441
  let v443 : BitVec 32 := Scalar.select v437 v440 v442
  let v444 : BitVec 32 := Scalar.select v433 v436 v443
  let v445 : BitVec 32 := Scalar.select v429 v432 v444
  let v446 : BitVec 32 := Scalar.select v428 c0_i32_380 v445
  let c1_i32_385 : BitVec 32 := 1#32
  let v448 : BitVec 32 := Scalar.muli v446 c1_i32_385
  let v449 : BitVec 32 := Scalar.addi c0_i32_386 v448
  v449.toNat
def k0_dev28 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c9_i32_390 : BitVec 32 := 9#32
  let v457 : BitVec 32 := Scalar.addi v41 c9_i32_390
  let c16_i32_391 : BitVec 32 := 16#32
  let v458 : BitVec 32 := Scalar.remsi v457 c16_i32_391
  let c0_i32_392 : BitVec 32 := 0#32
  let v459 : BitVec 1 := Scalar.cmpi .eq v458 c0_i32_392
  let c0_i32_407 : BitVec 32 := 0#32
  let c4_i32_393 : BitVec 32 := 4#32
  let v460 : BitVec 1 := Scalar.cmpi .sle v458 c4_i32_393
  let c4_i32_395 : BitVec 32 := 4#32
  let c1_i32_394 : BitVec 32 := 1#32
  let v461 : BitVec 32 := Scalar.subi v458 c1_i32_394
  let v462 : BitVec 32 := Scalar.muli c4_i32_395 v461
  let c1_i32_396 : BitVec 32 := 1#32
  let v463 : BitVec 32 := Scalar.addi v462 c1_i32_396
  let c8_i32_397 : BitVec 32 := 8#32
  let v464 : BitVec 1 := Scalar.cmpi .sle v458 c8_i32_397
  let c4_i32_399 : BitVec 32 := 4#32
  let c8_i32_398 : BitVec 32 := 8#32
  let v465 : BitVec 32 := Scalar.subi c8_i32_398 v458
  let v466 : BitVec 32 := Scalar.muli c4_i32_399 v465
  let c2_i32_400 : BitVec 32 := 2#32
  let v467 : BitVec 32 := Scalar.addi v466 c2_i32_400
  let c12_i32_401 : BitVec 32 := 12#32
  let v468 : BitVec 1 := Scalar.cmpi .sle v458 c12_i32_401
  let c4_i32_403 : BitVec 32 := 4#32
  let c9_i32_402 : BitVec 32 := 9#32
  let v469 : BitVec 32 := Scalar.subi v458 c9_i32_402
  let v470 : BitVec 32 := Scalar.muli c4_i32_403 v469
  let c3_i32_404 : BitVec 32 := 3#32
  let v471 : BitVec 32 := Scalar.addi v470 c3_i32_404
  let c4_i32_406 : BitVec 32 := 4#32
  let c16_i32_405 : BitVec 32 := 16#32
  let v472 : BitVec 32 := Scalar.subi c16_i32_405 v458
  let v473 : BitVec 32 := Scalar.muli c4_i32_406 v472
  let v474 : BitVec 32 := Scalar.select v468 v471 v473
  let v475 : BitVec 32 := Scalar.select v464 v467 v474
  let v476 : BitVec 32 := Scalar.select v460 v463 v475
  let v477 : BitVec 32 := Scalar.select v459 c0_i32_407 v476
  let c1_i32_412 : BitVec 32 := 1#32
  let v479 : BitVec 32 := Scalar.muli v477 c1_i32_412
  let v480 : BitVec 32 := Scalar.addi c0_i32_413 v479
  v480.toNat
def k0_dev29 (d0 : Dev nD) : Nat :=
  let c0_i32_440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c10_i32_417 : BitVec 32 := 10#32
  let v488 : BitVec 32 := Scalar.addi v41 c10_i32_417
  let c16_i32_418 : BitVec 32 := 16#32
  let v489 : BitVec 32 := Scalar.remsi v488 c16_i32_418
  let c0_i32_419 : BitVec 32 := 0#32
  let v490 : BitVec 1 := Scalar.cmpi .eq v489 c0_i32_419
  let c0_i32_434 : BitVec 32 := 0#32
  let c4_i32_420 : BitVec 32 := 4#32
  let v491 : BitVec 1 := Scalar.cmpi .sle v489 c4_i32_420
  let c4_i32_422 : BitVec 32 := 4#32
  let c1_i32_421 : BitVec 32 := 1#32
  let v492 : BitVec 32 := Scalar.subi v489 c1_i32_421
  let v493 : BitVec 32 := Scalar.muli c4_i32_422 v492
  let c1_i32_423 : BitVec 32 := 1#32
  let v494 : BitVec 32 := Scalar.addi v493 c1_i32_423
  let c8_i32_424 : BitVec 32 := 8#32
  let v495 : BitVec 1 := Scalar.cmpi .sle v489 c8_i32_424
  let c4_i32_426 : BitVec 32 := 4#32
  let c8_i32_425 : BitVec 32 := 8#32
  let v496 : BitVec 32 := Scalar.subi c8_i32_425 v489
  let v497 : BitVec 32 := Scalar.muli c4_i32_426 v496
  let c2_i32_427 : BitVec 32 := 2#32
  let v498 : BitVec 32 := Scalar.addi v497 c2_i32_427
  let c12_i32_428 : BitVec 32 := 12#32
  let v499 : BitVec 1 := Scalar.cmpi .sle v489 c12_i32_428
  let c4_i32_430 : BitVec 32 := 4#32
  let c9_i32_429 : BitVec 32 := 9#32
  let v500 : BitVec 32 := Scalar.subi v489 c9_i32_429
  let v501 : BitVec 32 := Scalar.muli c4_i32_430 v500
  let c3_i32_431 : BitVec 32 := 3#32
  let v502 : BitVec 32 := Scalar.addi v501 c3_i32_431
  let c4_i32_433 : BitVec 32 := 4#32
  let c16_i32_432 : BitVec 32 := 16#32
  let v503 : BitVec 32 := Scalar.subi c16_i32_432 v489
  let v504 : BitVec 32 := Scalar.muli c4_i32_433 v503
  let v505 : BitVec 32 := Scalar.select v499 v502 v504
  let v506 : BitVec 32 := Scalar.select v495 v498 v505
  let v507 : BitVec 32 := Scalar.select v491 v494 v506
  let v508 : BitVec 32 := Scalar.select v490 c0_i32_434 v507
  let c1_i32_439 : BitVec 32 := 1#32
  let v510 : BitVec 32 := Scalar.muli v508 c1_i32_439
  let v511 : BitVec 32 := Scalar.addi c0_i32_440 v510
  v511.toNat
def k0_dev30 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c11_i32_444 : BitVec 32 := 11#32
  let v519 : BitVec 32 := Scalar.addi v41 c11_i32_444
  let c16_i32_445 : BitVec 32 := 16#32
  let v520 : BitVec 32 := Scalar.remsi v519 c16_i32_445
  let c0_i32_446 : BitVec 32 := 0#32
  let v521 : BitVec 1 := Scalar.cmpi .eq v520 c0_i32_446
  let c0_i32_461 : BitVec 32 := 0#32
  let c4_i32_447 : BitVec 32 := 4#32
  let v522 : BitVec 1 := Scalar.cmpi .sle v520 c4_i32_447
  let c4_i32_449 : BitVec 32 := 4#32
  let c1_i32_448 : BitVec 32 := 1#32
  let v523 : BitVec 32 := Scalar.subi v520 c1_i32_448
  let v524 : BitVec 32 := Scalar.muli c4_i32_449 v523
  let c1_i32_450 : BitVec 32 := 1#32
  let v525 : BitVec 32 := Scalar.addi v524 c1_i32_450
  let c8_i32_451 : BitVec 32 := 8#32
  let v526 : BitVec 1 := Scalar.cmpi .sle v520 c8_i32_451
  let c4_i32_453 : BitVec 32 := 4#32
  let c8_i32_452 : BitVec 32 := 8#32
  let v527 : BitVec 32 := Scalar.subi c8_i32_452 v520
  let v528 : BitVec 32 := Scalar.muli c4_i32_453 v527
  let c2_i32_454 : BitVec 32 := 2#32
  let v529 : BitVec 32 := Scalar.addi v528 c2_i32_454
  let c12_i32_455 : BitVec 32 := 12#32
  let v530 : BitVec 1 := Scalar.cmpi .sle v520 c12_i32_455
  let c4_i32_457 : BitVec 32 := 4#32
  let c9_i32_456 : BitVec 32 := 9#32
  let v531 : BitVec 32 := Scalar.subi v520 c9_i32_456
  let v532 : BitVec 32 := Scalar.muli c4_i32_457 v531
  let c3_i32_458 : BitVec 32 := 3#32
  let v533 : BitVec 32 := Scalar.addi v532 c3_i32_458
  let c4_i32_460 : BitVec 32 := 4#32
  let c16_i32_459 : BitVec 32 := 16#32
  let v534 : BitVec 32 := Scalar.subi c16_i32_459 v520
  let v535 : BitVec 32 := Scalar.muli c4_i32_460 v534
  let v536 : BitVec 32 := Scalar.select v530 v533 v535
  let v537 : BitVec 32 := Scalar.select v526 v529 v536
  let v538 : BitVec 32 := Scalar.select v522 v525 v537
  let v539 : BitVec 32 := Scalar.select v521 c0_i32_461 v538
  let c1_i32_466 : BitVec 32 := 1#32
  let v541 : BitVec 32 := Scalar.muli v539 c1_i32_466
  let v542 : BitVec 32 := Scalar.addi c0_i32_467 v541
  v542.toNat
def k0_dev31 (d0 : Dev nD) : Nat :=
  let c0_i32_494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c12_i32_471 : BitVec 32 := 12#32
  let v550 : BitVec 32 := Scalar.addi v41 c12_i32_471
  let c16_i32_472 : BitVec 32 := 16#32
  let v551 : BitVec 32 := Scalar.remsi v550 c16_i32_472
  let c0_i32_473 : BitVec 32 := 0#32
  let v552 : BitVec 1 := Scalar.cmpi .eq v551 c0_i32_473
  let c0_i32_488 : BitVec 32 := 0#32
  let c4_i32_474 : BitVec 32 := 4#32
  let v553 : BitVec 1 := Scalar.cmpi .sle v551 c4_i32_474
  let c4_i32_476 : BitVec 32 := 4#32
  let c1_i32_475 : BitVec 32 := 1#32
  let v554 : BitVec 32 := Scalar.subi v551 c1_i32_475
  let v555 : BitVec 32 := Scalar.muli c4_i32_476 v554
  let c1_i32_477 : BitVec 32 := 1#32
  let v556 : BitVec 32 := Scalar.addi v555 c1_i32_477
  let c8_i32_478 : BitVec 32 := 8#32
  let v557 : BitVec 1 := Scalar.cmpi .sle v551 c8_i32_478
  let c4_i32_480 : BitVec 32 := 4#32
  let c8_i32_479 : BitVec 32 := 8#32
  let v558 : BitVec 32 := Scalar.subi c8_i32_479 v551
  let v559 : BitVec 32 := Scalar.muli c4_i32_480 v558
  let c2_i32_481 : BitVec 32 := 2#32
  let v560 : BitVec 32 := Scalar.addi v559 c2_i32_481
  let c12_i32_482 : BitVec 32 := 12#32
  let v561 : BitVec 1 := Scalar.cmpi .sle v551 c12_i32_482
  let c4_i32_484 : BitVec 32 := 4#32
  let c9_i32_483 : BitVec 32 := 9#32
  let v562 : BitVec 32 := Scalar.subi v551 c9_i32_483
  let v563 : BitVec 32 := Scalar.muli c4_i32_484 v562
  let c3_i32_485 : BitVec 32 := 3#32
  let v564 : BitVec 32 := Scalar.addi v563 c3_i32_485
  let c4_i32_487 : BitVec 32 := 4#32
  let c16_i32_486 : BitVec 32 := 16#32
  let v565 : BitVec 32 := Scalar.subi c16_i32_486 v551
  let v566 : BitVec 32 := Scalar.muli c4_i32_487 v565
  let v567 : BitVec 32 := Scalar.select v561 v564 v566
  let v568 : BitVec 32 := Scalar.select v557 v560 v567
  let v569 : BitVec 32 := Scalar.select v553 v556 v568
  let v570 : BitVec 32 := Scalar.select v552 c0_i32_488 v569
  let c1_i32_493 : BitVec 32 := 1#32
  let v572 : BitVec 32 := Scalar.muli v570 c1_i32_493
  let v573 : BitVec 32 := Scalar.addi c0_i32_494 v572
  v573.toNat
def k0_dev32 (d0 : Dev nD) : Nat :=
  let c0_i32_521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c13_i32_498 : BitVec 32 := 13#32
  let v581 : BitVec 32 := Scalar.addi v41 c13_i32_498
  let c16_i32_499 : BitVec 32 := 16#32
  let v582 : BitVec 32 := Scalar.remsi v581 c16_i32_499
  let c0_i32_500 : BitVec 32 := 0#32
  let v583 : BitVec 1 := Scalar.cmpi .eq v582 c0_i32_500
  let c0_i32_515 : BitVec 32 := 0#32
  let c4_i32_501 : BitVec 32 := 4#32
  let v584 : BitVec 1 := Scalar.cmpi .sle v582 c4_i32_501
  let c4_i32_503 : BitVec 32 := 4#32
  let c1_i32_502 : BitVec 32 := 1#32
  let v585 : BitVec 32 := Scalar.subi v582 c1_i32_502
  let v586 : BitVec 32 := Scalar.muli c4_i32_503 v585
  let c1_i32_504 : BitVec 32 := 1#32
  let v587 : BitVec 32 := Scalar.addi v586 c1_i32_504
  let c8_i32_505 : BitVec 32 := 8#32
  let v588 : BitVec 1 := Scalar.cmpi .sle v582 c8_i32_505
  let c4_i32_507 : BitVec 32 := 4#32
  let c8_i32_506 : BitVec 32 := 8#32
  let v589 : BitVec 32 := Scalar.subi c8_i32_506 v582
  let v590 : BitVec 32 := Scalar.muli c4_i32_507 v589
  let c2_i32_508 : BitVec 32 := 2#32
  let v591 : BitVec 32 := Scalar.addi v590 c2_i32_508
  let c12_i32_509 : BitVec 32 := 12#32
  let v592 : BitVec 1 := Scalar.cmpi .sle v582 c12_i32_509
  let c4_i32_511 : BitVec 32 := 4#32
  let c9_i32_510 : BitVec 32 := 9#32
  let v593 : BitVec 32 := Scalar.subi v582 c9_i32_510
  let v594 : BitVec 32 := Scalar.muli c4_i32_511 v593
  let c3_i32_512 : BitVec 32 := 3#32
  let v595 : BitVec 32 := Scalar.addi v594 c3_i32_512
  let c4_i32_514 : BitVec 32 := 4#32
  let c16_i32_513 : BitVec 32 := 16#32
  let v596 : BitVec 32 := Scalar.subi c16_i32_513 v582
  let v597 : BitVec 32 := Scalar.muli c4_i32_514 v596
  let v598 : BitVec 32 := Scalar.select v592 v595 v597
  let v599 : BitVec 32 := Scalar.select v588 v591 v598
  let v600 : BitVec 32 := Scalar.select v584 v587 v599
  let v601 : BitVec 32 := Scalar.select v583 c0_i32_515 v600
  let c1_i32_520 : BitVec 32 := 1#32
  let v603 : BitVec 32 := Scalar.muli v601 c1_i32_520
  let v604 : BitVec 32 := Scalar.addi c0_i32_521 v603
  v604.toNat
def k0_dev33 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c14_i32_525 : BitVec 32 := 14#32
  let v612 : BitVec 32 := Scalar.addi v41 c14_i32_525
  let c16_i32_526 : BitVec 32 := 16#32
  let v613 : BitVec 32 := Scalar.remsi v612 c16_i32_526
  let c0_i32_527 : BitVec 32 := 0#32
  let v614 : BitVec 1 := Scalar.cmpi .eq v613 c0_i32_527
  let c0_i32_542 : BitVec 32 := 0#32
  let c4_i32_528 : BitVec 32 := 4#32
  let v615 : BitVec 1 := Scalar.cmpi .sle v613 c4_i32_528
  let c4_i32_530 : BitVec 32 := 4#32
  let c1_i32_529 : BitVec 32 := 1#32
  let v616 : BitVec 32 := Scalar.subi v613 c1_i32_529
  let v617 : BitVec 32 := Scalar.muli c4_i32_530 v616
  let c1_i32_531 : BitVec 32 := 1#32
  let v618 : BitVec 32 := Scalar.addi v617 c1_i32_531
  let c8_i32_532 : BitVec 32 := 8#32
  let v619 : BitVec 1 := Scalar.cmpi .sle v613 c8_i32_532
  let c4_i32_534 : BitVec 32 := 4#32
  let c8_i32_533 : BitVec 32 := 8#32
  let v620 : BitVec 32 := Scalar.subi c8_i32_533 v613
  let v621 : BitVec 32 := Scalar.muli c4_i32_534 v620
  let c2_i32_535 : BitVec 32 := 2#32
  let v622 : BitVec 32 := Scalar.addi v621 c2_i32_535
  let c12_i32_536 : BitVec 32 := 12#32
  let v623 : BitVec 1 := Scalar.cmpi .sle v613 c12_i32_536
  let c4_i32_538 : BitVec 32 := 4#32
  let c9_i32_537 : BitVec 32 := 9#32
  let v624 : BitVec 32 := Scalar.subi v613 c9_i32_537
  let v625 : BitVec 32 := Scalar.muli c4_i32_538 v624
  let c3_i32_539 : BitVec 32 := 3#32
  let v626 : BitVec 32 := Scalar.addi v625 c3_i32_539
  let c4_i32_541 : BitVec 32 := 4#32
  let c16_i32_540 : BitVec 32 := 16#32
  let v627 : BitVec 32 := Scalar.subi c16_i32_540 v613
  let v628 : BitVec 32 := Scalar.muli c4_i32_541 v627
  let v629 : BitVec 32 := Scalar.select v623 v626 v628
  let v630 : BitVec 32 := Scalar.select v619 v622 v629
  let v631 : BitVec 32 := Scalar.select v615 v618 v630
  let v632 : BitVec 32 := Scalar.select v614 c0_i32_542 v631
  let c1_i32_547 : BitVec 32 := 1#32
  let v634 : BitVec 32 := Scalar.muli v632 c1_i32_547
  let v635 : BitVec 32 := Scalar.addi c0_i32_548 v634
  v635.toNat
def k0_dev34 (d0 : Dev nD) : Nat :=
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c15_i32_552 : BitVec 32 := 15#32
  let v643 : BitVec 32 := Scalar.addi v41 c15_i32_552
  let c16_i32_553 : BitVec 32 := 16#32
  let v644 : BitVec 32 := Scalar.remsi v643 c16_i32_553
  let c0_i32_554 : BitVec 32 := 0#32
  let v645 : BitVec 1 := Scalar.cmpi .eq v644 c0_i32_554
  let c0_i32_569 : BitVec 32 := 0#32
  let c4_i32_555 : BitVec 32 := 4#32
  let v646 : BitVec 1 := Scalar.cmpi .sle v644 c4_i32_555
  let c4_i32_557 : BitVec 32 := 4#32
  let c1_i32_556 : BitVec 32 := 1#32
  let v647 : BitVec 32 := Scalar.subi v644 c1_i32_556
  let v648 : BitVec 32 := Scalar.muli c4_i32_557 v647
  let c1_i32_558 : BitVec 32 := 1#32
  let v649 : BitVec 32 := Scalar.addi v648 c1_i32_558
  let c8_i32_559 : BitVec 32 := 8#32
  let v650 : BitVec 1 := Scalar.cmpi .sle v644 c8_i32_559
  let c4_i32_561 : BitVec 32 := 4#32
  let c8_i32_560 : BitVec 32 := 8#32
  let v651 : BitVec 32 := Scalar.subi c8_i32_560 v644
  let v652 : BitVec 32 := Scalar.muli c4_i32_561 v651
  let c2_i32_562 : BitVec 32 := 2#32
  let v653 : BitVec 32 := Scalar.addi v652 c2_i32_562
  let c12_i32_563 : BitVec 32 := 12#32
  let v654 : BitVec 1 := Scalar.cmpi .sle v644 c12_i32_563
  let c4_i32_565 : BitVec 32 := 4#32
  let c9_i32_564 : BitVec 32 := 9#32
  let v655 : BitVec 32 := Scalar.subi v644 c9_i32_564
  let v656 : BitVec 32 := Scalar.muli c4_i32_565 v655
  let c3_i32_566 : BitVec 32 := 3#32
  let v657 : BitVec 32 := Scalar.addi v656 c3_i32_566
  let c4_i32_568 : BitVec 32 := 4#32
  let c16_i32_567 : BitVec 32 := 16#32
  let v658 : BitVec 32 := Scalar.subi c16_i32_567 v644
  let v659 : BitVec 32 := Scalar.muli c4_i32_568 v658
  let v660 : BitVec 32 := Scalar.select v654 v657 v659
  let v661 : BitVec 32 := Scalar.select v650 v653 v660
  let v662 : BitVec 32 := Scalar.select v646 v649 v661
  let v663 : BitVec 32 := Scalar.select v645 c0_i32_569 v662
  let c1_i32_574 : BitVec 32 := 1#32
  let v665 : BitVec 32 := Scalar.muli v663 c1_i32_574
  let v666 : BitVec 32 := Scalar.addi c0_i32_575 v665
  v666.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_579 : BitVec 32 := 256#32
  let v674 : BitVec 32 := Scalar.muli v2 c256_i32_579
  let v675 : Index := Scalar.indexCast v674
  let c0_580 : Index := 0#32
  ![v675.toNat, 0]
def k0_dev35 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_599 : BitVec 32 := 1#32
  let v692 : BitVec 32 := Scalar.muli v62 c1_i32_599
  let v693 : BitVec 32 := Scalar.addi c0_i32_600 v692
  v693.toNat
def k0_dev36 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_619 : BitVec 32 := 1#32
  let v710 : BitVec 32 := Scalar.muli v84 c1_i32_619
  let v711 : BitVec 32 := Scalar.addi c0_i32_620 v710
  v711.toNat
def k0_dev37 (d0 : Dev nD) : Nat :=
  let c0_i32_640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_639 : BitVec 32 := 1#32
  let v728 : BitVec 32 := Scalar.muli v62 c1_i32_639
  let v729 : BitVec 32 := Scalar.addi c0_i32_640 v728
  v729.toNat
def k0_dev38 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_659 : BitVec 32 := 1#32
  let v746 : BitVec 32 := Scalar.muli v84 c1_i32_659
  let v747 : BitVec 32 := Scalar.addi c0_i32_660 v746
  v747.toNat
def k0_dev39 (d0 : Dev nD) : Nat :=
  let c0_i32_716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_715 : BitVec 32 := 1#32
  let v800 : BitVec 32 := Scalar.muli v62 c1_i32_715
  let v801 : BitVec 32 := Scalar.addi c0_i32_716 v800
  v801.toNat
def k0_dev40 (d0 : Dev nD) : Nat :=
  let c0_i32_736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_735 : BitVec 32 := 1#32
  let v818 : BitVec 32 := Scalar.muli v84 c1_i32_735
  let v819 : BitVec 32 := Scalar.addi c0_i32_736 v818
  v819.toNat
def k0_dev41 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_755 : BitVec 32 := 1#32
  let v836 : BitVec 32 := Scalar.muli v62 c1_i32_755
  let v837 : BitVec 32 := Scalar.addi c0_i32_756 v836
  v837.toNat
def k0_dev42 (d0 : Dev nD) : Nat :=
  let c0_i32_776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_775 : BitVec 32 := 1#32
  let v854 : BitVec 32 := Scalar.muli v84 c1_i32_775
  let v855 : BitVec 32 := Scalar.addi c0_i32_776 v854
  v855.toNat
def k0_dev43 (d0 : Dev nD) : Nat :=
  let c0_i32_832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_831 : BitVec 32 := 1#32
  let v908 : BitVec 32 := Scalar.muli v62 c1_i32_831
  let v909 : BitVec 32 := Scalar.addi c0_i32_832 v908
  v909.toNat
def k0_dev44 (d0 : Dev nD) : Nat :=
  let c0_i32_852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_851 : BitVec 32 := 1#32
  let v926 : BitVec 32 := Scalar.muli v84 c1_i32_851
  let v927 : BitVec 32 := Scalar.addi c0_i32_852 v926
  v927.toNat
def k0_dev45 (d0 : Dev nD) : Nat :=
  let c0_i32_872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_871 : BitVec 32 := 1#32
  let v944 : BitVec 32 := Scalar.muli v62 c1_i32_871
  let v945 : BitVec 32 := Scalar.addi c0_i32_872 v944
  v945.toNat
def k0_dev46 (d0 : Dev nD) : Nat :=
  let c0_i32_892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_891 : BitVec 32 := 1#32
  let v962 : BitVec 32 := Scalar.muli v84 c1_i32_891
  let v963 : BitVec 32 := Scalar.addi c0_i32_892 v962
  v963.toNat
def k0_dev47 (d0 : Dev nD) : Nat :=
  let c0_i32_948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_947 : BitVec 32 := 1#32
  let v1016 : BitVec 32 := Scalar.muli v62 c1_i32_947
  let v1017 : BitVec 32 := Scalar.addi c0_i32_948 v1016
  v1017.toNat
def k0_dev48 (d0 : Dev nD) : Nat :=
  let c0_i32_968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_967 : BitVec 32 := 1#32
  let v1034 : BitVec 32 := Scalar.muli v84 c1_i32_967
  let v1035 : BitVec 32 := Scalar.addi c0_i32_968 v1034
  v1035.toNat
def k0_dev49 (d0 : Dev nD) : Nat :=
  let c0_i32_988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_987 : BitVec 32 := 1#32
  let v1052 : BitVec 32 := Scalar.muli v62 c1_i32_987
  let v1053 : BitVec 32 := Scalar.addi c0_i32_988 v1052
  v1053.toNat
def k0_dev50 (d0 : Dev nD) : Nat :=
  let c0_i32_1008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1007 : BitVec 32 := 1#32
  let v1070 : BitVec 32 := Scalar.muli v84 c1_i32_1007
  let v1071 : BitVec 32 := Scalar.addi c0_i32_1008 v1070
  v1071.toNat
def k0_dev51 (d0 : Dev nD) : Nat :=
  let c0_i32_1064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1063 : BitVec 32 := 1#32
  let v1124 : BitVec 32 := Scalar.muli v62 c1_i32_1063
  let v1125 : BitVec 32 := Scalar.addi c0_i32_1064 v1124
  v1125.toNat
def k0_dev52 (d0 : Dev nD) : Nat :=
  let c0_i32_1084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1083 : BitVec 32 := 1#32
  let v1142 : BitVec 32 := Scalar.muli v84 c1_i32_1083
  let v1143 : BitVec 32 := Scalar.addi c0_i32_1084 v1142
  v1143.toNat
def k0_dev53 (d0 : Dev nD) : Nat :=
  let c0_i32_1104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1103 : BitVec 32 := 1#32
  let v1160 : BitVec 32 := Scalar.muli v62 c1_i32_1103
  let v1161 : BitVec 32 := Scalar.addi c0_i32_1104 v1160
  v1161.toNat
def k0_dev54 (d0 : Dev nD) : Nat :=
  let c0_i32_1124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1123 : BitVec 32 := 1#32
  let v1178 : BitVec 32 := Scalar.muli v84 c1_i32_1123
  let v1179 : BitVec 32 := Scalar.addi c0_i32_1124 v1178
  v1179.toNat
def k0_dev55 (d0 : Dev nD) : Nat :=
  let c0_i32_1180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1179 : BitVec 32 := 1#32
  let v1232 : BitVec 32 := Scalar.muli v62 c1_i32_1179
  let v1233 : BitVec 32 := Scalar.addi c0_i32_1180 v1232
  v1233.toNat
def k0_dev56 (d0 : Dev nD) : Nat :=
  let c0_i32_1200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1199 : BitVec 32 := 1#32
  let v1250 : BitVec 32 := Scalar.muli v84 c1_i32_1199
  let v1251 : BitVec 32 := Scalar.addi c0_i32_1200 v1250
  v1251.toNat
def k0_dev57 (d0 : Dev nD) : Nat :=
  let c0_i32_1220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1219 : BitVec 32 := 1#32
  let v1268 : BitVec 32 := Scalar.muli v62 c1_i32_1219
  let v1269 : BitVec 32 := Scalar.addi c0_i32_1220 v1268
  v1269.toNat
def k0_dev58 (d0 : Dev nD) : Nat :=
  let c0_i32_1240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1239 : BitVec 32 := 1#32
  let v1286 : BitVec 32 := Scalar.muli v84 c1_i32_1239
  let v1287 : BitVec 32 := Scalar.addi c0_i32_1240 v1286
  v1287.toNat
def k0_dev59 (d0 : Dev nD) : Nat :=
  let c0_i32_1296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1295 : BitVec 32 := 1#32
  let v1340 : BitVec 32 := Scalar.muli v62 c1_i32_1295
  let v1341 : BitVec 32 := Scalar.addi c0_i32_1296 v1340
  v1341.toNat
def k0_dev60 (d0 : Dev nD) : Nat :=
  let c0_i32_1316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1315 : BitVec 32 := 1#32
  let v1358 : BitVec 32 := Scalar.muli v84 c1_i32_1315
  let v1359 : BitVec 32 := Scalar.addi c0_i32_1316 v1358
  v1359.toNat
def k0_dev61 (d0 : Dev nD) : Nat :=
  let c0_i32_1336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1335 : BitVec 32 := 1#32
  let v1376 : BitVec 32 := Scalar.muli v62 c1_i32_1335
  let v1377 : BitVec 32 := Scalar.addi c0_i32_1336 v1376
  v1377.toNat
def k0_dev62 (d0 : Dev nD) : Nat :=
  let c0_i32_1356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1355 : BitVec 32 := 1#32
  let v1394 : BitVec 32 := Scalar.muli v84 c1_i32_1355
  let v1395 : BitVec 32 := Scalar.addi c0_i32_1356 v1394
  v1395.toNat
def k0_dev63 (d0 : Dev nD) : Nat :=
  let c0_i32_1412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1411 : BitVec 32 := 1#32
  let v1448 : BitVec 32 := Scalar.muli v62 c1_i32_1411
  let v1449 : BitVec 32 := Scalar.addi c0_i32_1412 v1448
  v1449.toNat
def k0_dev64 (d0 : Dev nD) : Nat :=
  let c0_i32_1432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1431 : BitVec 32 := 1#32
  let v1466 : BitVec 32 := Scalar.muli v84 c1_i32_1431
  let v1467 : BitVec 32 := Scalar.addi c0_i32_1432 v1466
  v1467.toNat
def k0_dev65 (d0 : Dev nD) : Nat :=
  let c0_i32_1452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1451 : BitVec 32 := 1#32
  let v1484 : BitVec 32 := Scalar.muli v62 c1_i32_1451
  let v1485 : BitVec 32 := Scalar.addi c0_i32_1452 v1484
  v1485.toNat
def k0_dev66 (d0 : Dev nD) : Nat :=
  let c0_i32_1472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1471 : BitVec 32 := 1#32
  let v1502 : BitVec 32 := Scalar.muli v84 c1_i32_1471
  let v1503 : BitVec 32 := Scalar.addi c0_i32_1472 v1502
  v1503.toNat
def k0_dev67 (d0 : Dev nD) : Nat :=
  let c0_i32_1521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1520 : BitVec 32 := 1#32
  let v1549 : BitVec 32 := Scalar.muli v62 c1_i32_1520
  let v1550 : BitVec 32 := Scalar.addi c0_i32_1521 v1549
  v1550.toNat
def k0_dev68 (d0 : Dev nD) : Nat :=
  let c0_i32_1541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1540 : BitVec 32 := 1#32
  let v1567 : BitVec 32 := Scalar.muli v84 c1_i32_1540
  let v1568 : BitVec 32 := Scalar.addi c0_i32_1541 v1567
  v1568.toNat
def k0_dev69 (d0 : Dev nD) : Nat :=
  let c0_i32_1561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1560 : BitVec 32 := 1#32
  let v1585 : BitVec 32 := Scalar.muli v62 c1_i32_1560
  let v1586 : BitVec 32 := Scalar.addi c0_i32_1561 v1585
  v1586.toNat
def k0_dev70 (d0 : Dev nD) : Nat :=
  let c0_i32_1581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1580 : BitVec 32 := 1#32
  let v1603 : BitVec 32 := Scalar.muli v84 c1_i32_1580
  let v1604 : BitVec 32 := Scalar.addi c0_i32_1581 v1603
  v1604.toNat
def k0_dev71 (d0 : Dev nD) : Nat :=
  let c0_i32_1623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1622 : BitVec 32 := 1#32
  let v1643 : BitVec 32 := Scalar.muli v62 c1_i32_1622
  let v1644 : BitVec 32 := Scalar.addi c0_i32_1623 v1643
  v1644.toNat
def k0_dev72 (d0 : Dev nD) : Nat :=
  let c0_i32_1643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1642 : BitVec 32 := 1#32
  let v1661 : BitVec 32 := Scalar.muli v84 c1_i32_1642
  let v1662 : BitVec 32 := Scalar.addi c0_i32_1643 v1661
  v1662.toNat
def k0_dev73 (d0 : Dev nD) : Nat :=
  let c0_i32_1663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1662 : BitVec 32 := 1#32
  let v1679 : BitVec 32 := Scalar.muli v62 c1_i32_1662
  let v1680 : BitVec 32 := Scalar.addi c0_i32_1663 v1679
  v1680.toNat
def k0_dev74 (d0 : Dev nD) : Nat :=
  let c0_i32_1683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1682 : BitVec 32 := 1#32
  let v1697 : BitVec 32 := Scalar.muli v84 c1_i32_1682
  let v1698 : BitVec 32 := Scalar.addi c0_i32_1683 v1697
  v1698.toNat
def k0_dev75 (d0 : Dev nD) : Nat :=
  let c0_i32_1725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1724 : BitVec 32 := 1#32
  let v1737 : BitVec 32 := Scalar.muli v62 c1_i32_1724
  let v1738 : BitVec 32 := Scalar.addi c0_i32_1725 v1737
  v1738.toNat
def k0_dev76 (d0 : Dev nD) : Nat :=
  let c0_i32_1745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1744 : BitVec 32 := 1#32
  let v1755 : BitVec 32 := Scalar.muli v84 c1_i32_1744
  let v1756 : BitVec 32 := Scalar.addi c0_i32_1745 v1755
  v1756.toNat
def k0_dev77 (d0 : Dev nD) : Nat :=
  let c0_i32_1765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1764 : BitVec 32 := 1#32
  let v1773 : BitVec 32 := Scalar.muli v62 c1_i32_1764
  let v1774 : BitVec 32 := Scalar.addi c0_i32_1765 v1773
  v1774.toNat
def k0_dev78 (d0 : Dev nD) : Nat :=
  let c0_i32_1785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1784 : BitVec 32 := 1#32
  let v1791 : BitVec 32 := Scalar.muli v84 c1_i32_1784
  let v1792 : BitVec 32 := Scalar.addi c0_i32_1785 v1791
  v1792.toNat
def k0_dev79 (d0 : Dev nD) : Nat :=
  let c0_i32_1827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1826 : BitVec 32 := 1#32
  let v1831 : BitVec 32 := Scalar.muli v62 c1_i32_1826
  let v1832 : BitVec 32 := Scalar.addi c0_i32_1827 v1831
  v1832.toNat
def k0_dev80 (d0 : Dev nD) : Nat :=
  let c0_i32_1847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1846 : BitVec 32 := 1#32
  let v1849 : BitVec 32 := Scalar.muli v84 c1_i32_1846
  let v1850 : BitVec 32 := Scalar.addi c0_i32_1847 v1849
  v1850.toNat
def k0_dev81 (d0 : Dev nD) : Nat :=
  let c0_i32_1867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1866 : BitVec 32 := 1#32
  let v1867 : BitVec 32 := Scalar.muli v62 c1_i32_1866
  let v1868 : BitVec 32 := Scalar.addi c0_i32_1867 v1867
  v1868.toNat
def k0_dev82 (d0 : Dev nD) : Nat :=
  let c0_i32_1887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1886 : BitVec 32 := 1#32
  let v1885 : BitVec 32 := Scalar.muli v84 c1_i32_1886
  let v1886 : BitVec 32 := Scalar.addi c0_i32_1887 v1885
  v1886.toNat
def k0_dev83 (d0 : Dev nD) : Nat :=
  let c0_i32_1929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1928 : BitVec 32 := 1#32
  let v1925 : BitVec 32 := Scalar.muli v62 c1_i32_1928
  let v1926 : BitVec 32 := Scalar.addi c0_i32_1929 v1925
  v1926.toNat
def k0_dev84 (d0 : Dev nD) : Nat :=
  let c0_i32_1949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1948 : BitVec 32 := 1#32
  let v1943 : BitVec 32 := Scalar.muli v84 c1_i32_1948
  let v1944 : BitVec 32 := Scalar.addi c0_i32_1949 v1943
  v1944.toNat
def k0_dev85 (d0 : Dev nD) : Nat :=
  let c0_i32_1969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_1968 : BitVec 32 := 1#32
  let v1961 : BitVec 32 := Scalar.muli v62 c1_i32_1968
  let v1962 : BitVec 32 := Scalar.addi c0_i32_1969 v1961
  v1962.toNat
def k0_dev86 (d0 : Dev nD) : Nat :=
  let c0_i32_1989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_1988 : BitVec 32 := 1#32
  let v1979 : BitVec 32 := Scalar.muli v84 c1_i32_1988
  let v1980 : BitVec 32 := Scalar.addi c0_i32_1989 v1979
  v1980.toNat
def k0_dev87 (d0 : Dev nD) : Nat :=
  let c0_i32_2031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_2030 : BitVec 32 := 1#32
  let v2019 : BitVec 32 := Scalar.muli v62 c1_i32_2030
  let v2020 : BitVec 32 := Scalar.addi c0_i32_2031 v2019
  v2020.toNat
def k0_dev88 (d0 : Dev nD) : Nat :=
  let c0_i32_2051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_2050 : BitVec 32 := 1#32
  let v2037 : BitVec 32 := Scalar.muli v84 c1_i32_2050
  let v2038 : BitVec 32 := Scalar.addi c0_i32_2051 v2037
  v2038.toNat
def k0_dev89 (d0 : Dev nD) : Nat :=
  let c0_i32_2071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c1_i32_17 : BitVec 32 := 1#32
  let v42 : BitVec 32 := Scalar.addi v41 c1_i32_17
  let c16_i32_18 : BitVec 32 := 16#32
  let v43 : BitVec 32 := Scalar.remsi v42 c16_i32_18
  let c0_i32_19 : BitVec 32 := 0#32
  let v44 : BitVec 1 := Scalar.cmpi .eq v43 c0_i32_19
  let c0_i32_32 : BitVec 32 := 0#32
  let c4_i32_20 : BitVec 32 := 4#32
  let v45 : BitVec 1 := Scalar.cmpi .sle v43 c4_i32_20
  let c4_i32_22 : BitVec 32 := 4#32
  let c1_i32_21 : BitVec 32 := 1#32
  let v46 : BitVec 32 := Scalar.subi v43 c1_i32_21
  let v47 : BitVec 32 := Scalar.muli c4_i32_22 v46
  let c1_i32_23 : BitVec 32 := 1#32
  let v48 : BitVec 32 := Scalar.addi v47 c1_i32_23
  let c8_i32_24 : BitVec 32 := 8#32
  let v49 : BitVec 1 := Scalar.cmpi .sle v43 c8_i32_24
  let c4_i32_26 : BitVec 32 := 4#32
  let c8_i32_25 : BitVec 32 := 8#32
  let v50 : BitVec 32 := Scalar.subi c8_i32_25 v43
  let v51 : BitVec 32 := Scalar.muli c4_i32_26 v50
  let c2_i32_27 : BitVec 32 := 2#32
  let v52 : BitVec 32 := Scalar.addi v51 c2_i32_27
  let c12_i32 : BitVec 32 := 12#32
  let v53 : BitVec 1 := Scalar.cmpi .sle v43 c12_i32
  let c4_i32_29 : BitVec 32 := 4#32
  let c9_i32_28 : BitVec 32 := 9#32
  let v54 : BitVec 32 := Scalar.subi v43 c9_i32_28
  let v55 : BitVec 32 := Scalar.muli c4_i32_29 v54
  let c3_i32 : BitVec 32 := 3#32
  let v56 : BitVec 32 := Scalar.addi v55 c3_i32
  let c4_i32_31 : BitVec 32 := 4#32
  let c16_i32_30 : BitVec 32 := 16#32
  let v57 : BitVec 32 := Scalar.subi c16_i32_30 v43
  let v58 : BitVec 32 := Scalar.muli c4_i32_31 v57
  let v59 : BitVec 32 := Scalar.select v53 v56 v58
  let v60 : BitVec 32 := Scalar.select v49 v52 v59
  let v61 : BitVec 32 := Scalar.select v45 v48 v60
  let v62 : BitVec 32 := Scalar.select v44 c0_i32_32 v61
  let c1_i32_2070 : BitVec 32 := 1#32
  let v2055 : BitVec 32 := Scalar.muli v62 c1_i32_2070
  let v2056 : BitVec 32 := Scalar.addi c0_i32_2071 v2055
  v2056.toNat
def k0_dev90 (d0 : Dev nD) : Nat :=
  let c0_i32_2091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_12 : BitVec 32 := 0#32
  let v31 : BitVec 1 := Scalar.cmpi .eq v19 c0_i32_12
  let c0_i32_14 : BitVec 32 := 0#32
  let c16_i32_13 : BitVec 32 := 16#32
  let v32 : BitVec 32 := Scalar.subi c16_i32_13 v19
  let v33 : BitVec 32 := Scalar.select v31 c0_i32_14 v32
  let c1_i32_15 : BitVec 32 := 1#32
  let v34 : BitVec 1 := Scalar.cmpi .eq v29 c1_i32_15
  let c1_i32_16 : BitVec 32 := 1#32
  let v35 : BitVec 32 := Scalar.addi c1_i32_16 v19
  let c2_i32 : BitVec 32 := 2#32
  let v36 : BitVec 1 := Scalar.cmpi .eq v29 c2_i32
  let c8_i32 : BitVec 32 := 8#32
  let v37 : BitVec 32 := Scalar.subi c8_i32 v19
  let c9_i32 : BitVec 32 := 9#32
  let v38 : BitVec 32 := Scalar.addi c9_i32 v19
  let v39 : BitVec 32 := Scalar.select v36 v37 v38
  let v40 : BitVec 32 := Scalar.select v34 v35 v39
  let v41 : BitVec 32 := Scalar.select v30 v33 v40
  let c16_i32_33 : BitVec 32 := 16#32
  let v63 : BitVec 32 := Scalar.addi v41 c16_i32_33
  let c1_i32_34 : BitVec 32 := 1#32
  let v64 : BitVec 32 := Scalar.subi v63 c1_i32_34
  let c16_i32_35 : BitVec 32 := 16#32
  let v65 : BitVec 32 := Scalar.remsi v64 c16_i32_35
  let c0_i32_36 : BitVec 32 := 0#32
  let v66 : BitVec 1 := Scalar.cmpi .eq v65 c0_i32_36
  let c0_i32_51 : BitVec 32 := 0#32
  let c4_i32_37 : BitVec 32 := 4#32
  let v67 : BitVec 1 := Scalar.cmpi .sle v65 c4_i32_37
  let c4_i32_39 : BitVec 32 := 4#32
  let c1_i32_38 : BitVec 32 := 1#32
  let v68 : BitVec 32 := Scalar.subi v65 c1_i32_38
  let v69 : BitVec 32 := Scalar.muli c4_i32_39 v68
  let c1_i32_40 : BitVec 32 := 1#32
  let v70 : BitVec 32 := Scalar.addi v69 c1_i32_40
  let c8_i32_41 : BitVec 32 := 8#32
  let v71 : BitVec 1 := Scalar.cmpi .sle v65 c8_i32_41
  let c4_i32_43 : BitVec 32 := 4#32
  let c8_i32_42 : BitVec 32 := 8#32
  let v72 : BitVec 32 := Scalar.subi c8_i32_42 v65
  let v73 : BitVec 32 := Scalar.muli c4_i32_43 v72
  let c2_i32_44 : BitVec 32 := 2#32
  let v74 : BitVec 32 := Scalar.addi v73 c2_i32_44
  let c12_i32_45 : BitVec 32 := 12#32
  let v75 : BitVec 1 := Scalar.cmpi .sle v65 c12_i32_45
  let c4_i32_47 : BitVec 32 := 4#32
  let c9_i32_46 : BitVec 32 := 9#32
  let v76 : BitVec 32 := Scalar.subi v65 c9_i32_46
  let v77 : BitVec 32 := Scalar.muli c4_i32_47 v76
  let c3_i32_48 : BitVec 32 := 3#32
  let v78 : BitVec 32 := Scalar.addi v77 c3_i32_48
  let c4_i32_50 : BitVec 32 := 4#32
  let c16_i32_49 : BitVec 32 := 16#32
  let v79 : BitVec 32 := Scalar.subi c16_i32_49 v65
  let v80 : BitVec 32 := Scalar.muli c4_i32_50 v79
  let v81 : BitVec 32 := Scalar.select v75 v78 v80
  let v82 : BitVec 32 := Scalar.select v71 v74 v81
  let v83 : BitVec 32 := Scalar.select v67 v70 v82
  let v84 : BitVec 32 := Scalar.select v66 c0_i32_51 v83
  let c1_i32_2090 : BitVec 32 := 1#32
  let v2073 : BitVec 32 := Scalar.muli v84 c1_i32_2090
  let v2074 : BitVec 32 := Scalar.addi c0_i32_2091 v2073
  v2074.toNat
abbrev stage0_0 : Fin 1 → Memref sig .tc .vmem S4096x256 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
/-
  The body of the kernel as a few lists of steps, each step a definition over the slot, the quarter and the
  distance it works on, and the equation between the printed body and those lists.
-/
module

public import proofs.«01_k».proof.Proof.Gen.KernelIdeal.Skeleton
public import proofs.«01_k».proof.Proof.Gen.KernelIdeal.Frame
public import Idealize.ShloMosaic.Lib.Pipeline.Regions

@[expose] public section

noncomputable section

namespace Cert.RingMM

open Cert.KernelIdeal Cert.KernelIdeal.Gen
open Idealize.ShloMosaic Idealize.ShloMosaic.TcCoe
open Idealize.SL Idealize.SL.Sem
open Idealize.ShloMosaic.Pipeline (chain)

variable {F : FTy → Type} [FloatOps F]

/-- A program of the core. -/
abbrev PP (F : FTy → Type) [FloatOps F] : Type 1 := Prog (TpuEff nD τ sig (Elt F) Λ₀ .tc) PUnit

/-! ## The buffers -/

abbrev xM : Memref sig .tc .vmem S4096x256 .fp8e5m2 := Memref.whole cc0_stg0_0
abbrev wM : Memref sig .tc .vmem S256x8192 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S256x8192 .f32 := Memref.whole cc0_stg4_0
abbrev xgM : Memref sig .tc .vmem S16x256x256 .fp8e5m2 := Memref.whole cc0_scratch0
abbrev wgM : Memref sig .tc .vmem S16x256x8192 .fp8e5m2 := Memref.whole cc0_scratch1

/-! ## Rectangles -/

theorem inb_w (q : Fin 4) : ∀ a, (![0, q.val * 2048] : Fin 2 → Nat) a + S256x2048.size a ≤ S256x8192.size a := by
  revert q; decide
theorem inb_wg (s : Fin 16) (q : Fin 4) : ∀ a, (![s.val, 0, q.val * 2048] : Fin 3 → Nat) a + S1x256x2048.size a ≤ S16x256x8192.size a := by
  revert s q; decide
theorem inb_wgh (s : Fin 16) (b : Fin 2) : ∀ a, (![s.val, 0, b.val * 4096] : Fin 3 → Nat) a + S1x256x4096.size a ≤ S16x256x8192.size a := by
  revert s b; decide
theorem inb_xg (s : Fin 16) : ∀ a, (![s.val, 0, 0] : Fin 3 → Nat) a + S1x256x256.size a ≤ S16x256x256.size a := by
  revert s; decide
theorem inb_o (b : Fin 2) : ∀ a, (![0, b.val * 4096] : Fin 2 → Nat) a + S256x4096.size a ≤ S256x8192.size a := by
  revert b; decide

abbrev rW (q : Fin 4) : Rect S256x8192 := Rect.unit (s := S256x8192) ![0, q.val * 2048] S256x2048.size (inb_w q)
abbrev rWg (s : Fin 16) (q : Fin 4) : Rect S16x256x8192 := Rect.unit (s := S16x256x8192) ![s.val, 0, q.val * 2048] S1x256x2048.size (inb_wg s q)
abbrev rWgh (s : Fin 16) (b : Fin 2) : Rect S16x256x8192 := Rect.unit (s := S16x256x8192) ![s.val, 0, b.val * 4096] S1x256x4096.size (inb_wgh s b)
abbrev rXg (s : Fin 16) : Rect S16x256x256 := Rect.unit (s := S16x256x256) ![s.val, 0, 0] S1x256x256.size (inb_xg s)
abbrev rO (b : Fin 2) : Rect S256x8192 := Rect.unit (s := S256x8192) ![0, b.val * 4096] S256x4096.size (inb_o b)
abbrev rX (c : Dev nD) (k : Fin 15) : Rect S4096x256 :=
  Rect.unit (s := S4096x256) (k0_off1 c (BitVec.ofNat 32 (1 + k.val))) S256x256.size (k0_off1_inb c k)
abbrev rX0 (c : Dev nD) : Rect S4096x256 := Rect.unit (s := S4096x256) (k0_off2 c) S256x256.size (k0_off2_inb c)
abbrev rAll : Rect S256x8192 := Rect.unit (s := S256x8192) ![0, 0] S256x8192.size inb_S256x8192_S256x8192_0_0

theorem words_wg (s : Fin 16) (q : Fin 4) : (rWg s q).WholeWords (EltTy.packing .fp8e5m2) := by
  revert s q; decide
theorem packed_wg (s : Fin 16) (q : Fin 4) : (rWg s q).PackedRows (EltTy.packing .fp8e5m2) := by
  revert s q; decide
theorem words_xg (s : Fin 16) : (rXg s).WholeWords (EltTy.packing .fp8e5m2) := by
  revert s; decide

/-! ## The views the transfers name -/

/-- Quarter `q` of the columns of slot `s` of the gathered weights. -/
abbrev wgP (s : Fin 16) (q : Fin 4) : Memref sig .tc .vmem S256x2048 .fp8e5m2 :=
  (wgM.slice (rWg s q) (fun _ => rfl)).squeeze S256x2048 squeezes_S1x256x2048_S256x2048
/-- Slot `s` of the gathered rows. -/
abbrev xgP (s : Fin 16) : Memref sig .tc .vmem S256x256 .fp8e5m2 :=
  (xgM.slice (rXg s) (fun _ => rfl)).squeeze S256x256 squeezes_S1x256x256_S256x256
/-- The rows of `x` that device `c` sends to the device `k + 1` places after it. -/
abbrev xP (c : Dev nD) (k : Fin 15) : Memref sig .tc .vmem S256x256 .fp8e5m2 := xM.slice (rX c k) (fun _ => rfl)

theorem exact_wgP (s : Fin 16) (q : Fin 4) : (wgP s q).view.WordExact :=
  ((Memref.isWhole_whole cc0_scratch1).wordExact_slice rfl _ (words_wg s q)).reshape _ _
theorem exact_xgP (s : Fin 16) : (xgP s).view.WordExact :=
  ((Memref.isWhole_whole cc0_scratch0).wordExact_slice rfl _ (words_xg s)).reshape _ _
theorem exact_xP (c : Dev nD) (k : Fin 15) : (xP c k).view.WordExact :=
  (Memref.isWhole_whole cc0_stg0_0).wordExact_slice rfl _ (k0_off1_wordsfp8e5m2 c k)

/-! ## Semaphores: channel 0 the rows of `x`, channel `q + 1` quarter `q` of the weights -/

/-- The send semaphore of entry `i` of channel `ch`. -/
def sS (ch : Fin 5) (i : Fin 16) : DmaSem sig := ⟨5 + 32 * ch.val + i.val, by show _ < 165; omega⟩
/-- The receive semaphore of entry `i` of channel `ch`. -/
def rS (ch : Fin 5) (i : Fin 16) : DmaSem sig := ⟨21 + 32 * ch.val + i.val, by show _ < 165; omega⟩

abbrev barS : Sem sig := (SemArray.scalar (sig.barrier 0 rfl) : Sems sig S_).sem

/-! ## Devices named by the program -/

/-- The device the `j`-th signal goes to. -/
def sigDev (c : Dev nD) (j : Fin 15) : Dev nD :=
  (![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
    ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩] : Fin 15 → Dev nD) j

/-- The device `k + 1` places after `c` on the ring, as the program computes it. -/
def aftDev (c : Dev nD) (k : Fin 15) : Dev nD :=
  (![⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩,
    ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩,
    ⟨k0_dev30 c, k0_dev30_lt c⟩, ⟨k0_dev31 c, k0_dev31_lt c⟩, ⟨k0_dev32 c, k0_dev32_lt c⟩, ⟨k0_dev33 c, k0_dev33_lt c⟩, ⟨k0_dev34 c, k0_dev34_lt c⟩] : Fin 15 → Dev nD) k

/-- The neighbour quarter `q` travels to: the next device for the first two quarters, the previous one for the others. -/
def ringDev (c : Dev nD) (q : Fin 4) : Dev nD :=
  bif q.val.blt 2 then ⟨k0_dev16 c, k0_dev16_lt c⟩ else ⟨k0_dev17 c, k0_dev17_lt c⟩

/-! ## Slots -/

/-- The slot quarter `q` is sent from at hop `h`. -/
def srcSlot (q : Fin 4) (h : Fin 15) : Fin 16 :=
  ⟨bif q.val.blt 2 then h.val else (16 - h.val) % 16, by cases q.val.blt 2 <;> simp <;> omega⟩
/-- The slot it lands in. -/
def dstSlot (q : Fin 4) (h : Fin 15) : Fin 16 :=
  ⟨bif q.val.blt 2 then h.val + 1 else 15 - h.val, by cases q.val.blt 2 <;> simp <;> omega⟩
/-- Place `k + 1`. -/
def sl (k : Fin 15) : Fin 16 := ⟨k.val + 1, by omega⟩
/-- Entry `h` of a hop's semaphores. -/
def hp (h : Fin 15) : Fin 16 := ⟨h.val, by omega⟩

def ch (q : Fin 4) : Fin 5 := ⟨q.val + 1, by omega⟩

/-! ## Steps -/

/-- Signal one device's barrier. -/
def stSig (c : Dev nD) (j : Fin 15) : PP F := semSignalWord (sigDev c j) barS 1#32
/-- Wait for the fifteen others. -/
def stBar : PP F := semWaitWord barS 15#32

/-- Start hop `h` of quarter `q`. -/
def stSendW (c : Dev nD) (q : Fin 4) (h : Fin 15) : PP F :=
  Prog.lift (.enqueueDma (wgP (srcSlot q h) q) (.remote (Dev.tc (ringDev c q)) (wgP (dstSlot q h) q) (.dma (sS (ch q) (hp h)))) (.dma (rS (ch q) (hp h)))
    (exact_wgP _ _) (exact_wgP _ _) ⟨⟨rfl, Or.inl rfl⟩, trivial⟩)
/-- Wait until hop `h` of quarter `q` has arrived. -/
def stRecvW (q : Fin 4) (h : Fin 15) : PP F :=
  Prog.lift (.waitDma2 (rS (ch q) (hp h)) (wgP (srcSlot q h) q) (wgP (dstSlot q h) q) (exact_wgP _ _) (exact_wgP _ _))
/-- Wait until hop `h` of quarter `q` has left. -/
def stSentW (q : Fin 4) (h : Fin 15) : PP F :=
  Prog.lift (.waitDma2 (sS (ch q) (hp h)) (wgP (dstSlot q h) q) (wgP (srcSlot q h) q) (exact_wgP _ _) (exact_wgP _ _))

/-- Copy quarter `q` of the own weights into slot 0, and start its first hop. -/
def stStage (c : Dev nD) (q : Fin 4) : PP F := do
  let v ← Prog.lift (.load wM (rW q).toLoadRect (View.loadsAt_vmem h_S256x2048))
  let _ ← Prog.lift (.load wgM (rWg 0 q).toLoadRect (View.loadsAt_vmem h_S1x256x2048))
  Prog.lift (.store wgM (rWg 0 q) (k0_pay2 v) Finset.univ (View.stores_vmem h_S1x256x2048 ((Memref.isWhole_whole cc0_scratch1).storeExact_slice rfl _ (packed_wg 0 q)) (fun _ => rfl)) (.inl rfl))
  stSendW c q 0

/-- Send the rows of `x` due `k + 1` places after. -/
def stSendX (c : Dev nD) (k : Fin 15) : PP F :=
  Prog.lift (.enqueueDma (xP c k) (.remote (Dev.tc (aftDev c k)) (xgP (sl k)) (.dma (sS 0 (sl k)))) (.dma (rS 0 (sl k)))
    (exact_xP _ _) (exact_xgP _) ⟨⟨rfl, Or.inl rfl⟩, trivial⟩)
/-- Wait until the rows from `k + 1` places before have arrived. -/
def stRecvX (c : Dev nD) (k : Fin 15) : PP F :=
  Prog.lift (.waitDma2 (rS 0 (sl k)) (xP c k) (xgP (sl k)) (exact_xP _ _) (exact_xgP _))
/-- Wait until the rows due `k + 1` places after have left. -/
def stSentX (c : Dev nD) (k : Fin 15) : PP F :=
  Prog.lift (.waitDma2 (sS 0 (sl k)) (xgP (sl k)) (xP c k) (exact_xgP _) (exact_xP _ _))

/-- The product of the own rows and the own weights. -/
def stOwn (c : Dev nD) : PP F := do
  let v ← Prog.lift (.load xM (rX0 c).toLoadRect (View.loadsAt_vmem h_S256x256))
  let w ← Prog.lift (.load wM rAll.toLoadRect (View.loadsAt_vmem h_S256x8192))
  let _ ← Prog.lift (.load oM rAll.toLoadRect (View.loadsAt_vmem h_S256x8192))
  Prog.lift (.store oM rAll (k0_pay6 v w) Finset.univ (View.stores_vmem_bits_univ h_S256x8192 rfl) (.inl rfl))

/-- Add to half `b` of the result the product of slot `s`, then put `g` of the sum there. -/
def stAdd (g : FVec F S256x4096 .f32 → FVec F S256x4096 .f32) (s : Fin 16) (b : Fin 2) : PP F := do
  let a ← Prog.lift (.load oM (rO b).toLoadRect (View.loadsAt_vmem h_S256x4096))
  let v ← Prog.lift (.load xgM (rXg s).toLoadRect (View.loadsAt_vmem h_S1x256x256))
  let w ← Prog.lift (.load wgM (rWgh s b).toLoadRect (View.loadsAt_vmem h_S1x256x4096))
  let _ ← Prog.lift (.load oM (rO b).toLoadRect (View.loadsAt_vmem h_S256x4096))
  Prog.lift (.store oM (rO b) (g (k0_pay7 a v w)) Finset.univ (View.stores_vmem_bits_univ h_S256x4096 rfl) (.inl rfl))

/-- Scale by `z`, then the larger of that and zero. -/
def fin (z : F .f32) (v : FVec F S256x4096 .f32) : FVec F S256x4096 .f32 :=
  maximumf (mulf v (broadcast S256x4096 z)) (broadcast S256x4096 (Scalar.ofBits .f32 0x00000000#32))

/-- Receive one quarter of hop `h` and pass it on. -/
def stPass (c : Dev nD) (h : Fin 14) (q : Fin 4) : PP F := do
  stRecvW q h.castSucc
  stSendW c q h.succ

/-- One hop: the four quarters received and passed on, then the two halves. -/
def stHop (c : Dev nD) (h : Fin 14) : PP F := do
  chain ([0, 2, 1, 3].map (stPass c h))
  chain (bif h.val.blt 8 then [stRecvX c h.castSucc] else [])
  stAdd id (sl h.castSucc) 0
  chain (bif h.val.blt 7 then [stRecvX c h.castSucc.rev] else [])
  stAdd id (sl h.castSucc.rev) 1

/-- The last hop: the four quarters received, then the two halves, scaled and cut off at zero. -/
def stLast (c : Dev nD) (z : F .f32) : PP F := do
  chain ([0, 2, 1, 3].map (fun q => stRecvW q 14))
  stAdd (fin z) 15 0
  stAdd (fin z) 1 1

def stDrainF (h : Fin 15) : PP F := chain ([0, 1].map (fun q => stSentW q h))
def stDrainB (h : Fin 15) : PP F := chain ([2, 3].map (fun q => stSentW q h))

def all14 : List (Fin 14) := [0, 1, 2, 3, 4, 5, 6, 7, 8, 9, 10, 11, 12, 13]
def all15 : List (Fin 15) := [0, 1, 2, 3, 4, 5, 6, 7, 8, 9, 10, 11, 12, 13, 14]

/-- Everything after the two scales are read, `z` their product. -/
def rest (c : Dev nD) (z : F .f32) : PP F := do
  chain ([0, 2, 1, 3].map (stStage c))
  chain (all15.map (stSendX c))
  stOwn c
  chain (all14.map (stHop c))
  stLast c z
  chain (all15.map stDrainF)
  chain (all15.map stDrainB)
  chain (all15.map (stSentX c))

/-- The whole body. -/
def prog : PP F := do
  let c ← Prog.lift .deviceId
  chain (all15.map (stSig c))
  stBar
  let a ← smemLoad sxM (Rect.unit (s := S1) ![0] S1.size inb_S1_S1_0) numel1_S1 rfl
  let b ← smemLoad swM (Rect.unit (s := S1) ![0] S1.size inb_S1_S1_0) numel1_S1 rfl
  rest c (k0_pay1 a b)

/-- The printed body, at the kernel's buffers, is `prog`. -/
theorem body_eq : cc0_body (F := F) xM (Memref.isWhole_whole _) wM (Memref.isWhole_whole _) sxM (Memref.isWhole_whole _) swM (Memref.isWhole_whole _) oM (Memref.isWhole_whole _)
    xgM (Memref.isWhole_whole _) wgM (Memref.isWhole_whole _) cc0_scratch2 cc0_scratch3 cc0_scratch4 cc0_scratch5 cc0_scratch6 cc0_scratch7 cc0_scratch8 cc0_scratch9 cc0_scratch10 cc0_scratch11
    = prog := by
  chain_rfl

end Cert.RingMM

end
-- ==== Proof.Geo.lean ====
/-
  Where things are: the order of the devices on the ring, the transfers, which semaphore belongs to which transfer,
  and which elements of which buffer a transfer reads and writes.
-/
module

public import proofs.«01_k».proof.Proof.Prog
public import Idealize.ShloMosaic.Lib.Pipeline.Value
public import Idealize.ShloMosaic.Lib.Pipeline.ValueKit.Geometry
public import Idealize.ShloMosaic.Lib.ValueLayout
public import Idealize.ShloMosaic.Lib.ViewIndex

@[expose] public section

noncomputable section

namespace Cert.RingMM

open Cert.KernelIdeal Cert.KernelIdeal.Gen
open Idealize.ShloMosaic Idealize.ShloMosaic.TcCoe
open Idealize.SL Idealize.SL.Sem

/-! ## The ring -/

/-- The device at each place of the ring. -/
def devAt (p : Fin 16) : Dev nD :=
  (![0, 1, 5, 9, 13, 14, 10, 6, 2, 3, 7, 11, 15, 12, 8, 4] : Fin 16 → Fin 16) p
/-- The place of each device on the ring. -/
def place (c : Dev nD) : Fin 16 :=
  (![0, 1, 8, 9, 15, 2, 7, 10, 14, 3, 6, 11, 13, 4, 5, 12] : Fin 16 → Fin 16) c

theorem devAt_place (c : Dev nD) : devAt (place c) = c := by revert c; decide
theorem place_devAt (p : Fin 16) : place (devAt p) = p := by revert p; decide

theorem add0 : ∀ a : Fin 16, a + 0 = a := by decide
theorem addN : ∀ a : Fin 16, a + -a = 0 := by decide
theorem addN' : ∀ a : Fin 16, -a + a = 0 := by decide
set_option maxRecDepth 20000 in
theorem addA : ∀ a b c : Fin 16, a + b + c = a + (b + c) := by decide +kernel

/-- The device `k` places after `c`. -/
def aft (c : Dev nD) (k : Fin 16) : Dev nD := devAt (place c + k)

theorem aft_zero (c : Dev nD) : aft c 0 = c := by unfold aft; rw [add0, devAt_place]
theorem aft_aft (c : Dev nD) (a b : Fin 16) : aft (aft c a) b = aft c (a + b) := by
  unfold aft; rw [place_devAt, addA]

/-- Moving by `k` places, undone by moving by `-k`. -/
def aftEquiv (k : Fin 16) : Dev nD ≃ Dev nD where
  toFun c := aft c k
  invFun c := aft c (-k)
  left_inv c := by show aft (aft c k) (-k) = c; rw [aft_aft, addN, aft_zero]
  right_inv c := by show aft (aft c (-k)) k = c; rw [aft_aft, addN', aft_zero]

/-- The way quarter `q` goes: one place on, or one place back. -/
def way (q : Fin 4) : Fin 16 := bif q.val.blt 2 then 1 else 15

set_option maxRecDepth 20000 in
theorem aftDev_eq : ∀ (c : Dev nD) (k : Fin 15), aftDev c k = aft c (sl k) := by decide +kernel
set_option maxRecDepth 20000 in
theorem ringDev_eq : ∀ (c : Dev nD) (q : Fin 4), ringDev c q = aft c (way q) := by decide +kernel

theorem dstSlot_eq (q : Fin 4) (h : Fin 15) : dstSlot q h = srcSlot q h + way q := by revert q h; decide
theorem srcSlot_succ (q : Fin 4) (h : Fin 14) : srcSlot q h.succ = dstSlot q h.castSucc := by revert q h; decide
theorem srcSlot_zero (q : Fin 4) : srcSlot q 0 = 0 := by revert q; decide

/-- The `j`-th device signalled: `j + 1` further in number. -/
def nb (c : Dev nD) (j : Fin 15) : Dev nD := (show Fin 16 from c) + sl j
/-- Undone. -/
def nbEquiv (j : Fin 15) : Dev nD ≃ Dev nD where
  toFun c := nb c j
  invFun c := (show Fin 16 from c) - sl j
  left_inv c := by revert c j; decide
  right_inv c := by revert c j; decide

set_option maxRecDepth 20000 in
theorem sigDev_eq : ∀ (c : Dev nD) (j : Fin 15), sigDev c j = nb c j := by decide +kernel

/-! ## Transfers -/

/-- The transfers a device starts: the rows of `x` due `k + 1` places on, or hop `h` of quarter `q` of the weights. -/
abbrev Tr : Type := Fin 15 ⊕ (Fin 4 × Fin 15)

/-- How many places on a transfer goes. -/
def shf : Tr → Fin 16
  | .inl k => sl k
  | .inr p => way p.1
/-- Where transfer `t` of device `c` goes. -/
def tgt (c : Dev nD) (t : Tr) : Dev nD := aft c (shf t)
/-- Where transfer `t` that reaches device `c` comes from. -/
def org (c : Dev nD) (t : Tr) : Dev nD := aft c (-shf t)
theorem tgt_org (c : Dev nD) (t : Tr) : tgt (org c t) t = c := by unfold tgt org; rw [aft_aft, addN', aft_zero]
theorem org_tgt (c : Dev nD) (t : Tr) : org (tgt c t) t = c := by unfold tgt org; rw [aft_aft, addN, aft_zero]

/-- The number of the signal device `d` sends to device `c`. -/
def sigNo (c d : Dev nD) : Fin 15 :=
  ⟨min 14 ((show Fin 16 from c) - (show Fin 16 from d) - 1 : Fin 16).val, by omega⟩

set_option maxRecDepth 100000 in
/-- The transfers from device `nb d j` whose target sends it signal `j` are those that reach `d`. -/
theorem sigNo_iff : ∀ (d : Dev nD) (j : Fin 15) (t : Tr), sigNo (nb d j) (tgt (nb d j) t) = j ↔ tgt (nb d j) t = d := by
  decide +kernel
set_option maxRecDepth 100000 in
theorem sigNo_org : ∀ (d : Dev nD) (j : Fin 15) (t : Tr), sigNo (org d t) d = j ↔ tgt (nb d j) t = d := by
  decide +kernel
set_option maxRecDepth 100000 in
theorem image_sigNo_tgt : ∀ c : Dev nD, (Finset.univ.image fun t : Tr => sigNo c (tgt c t)) = Finset.univ := by
  decide +kernel
set_option maxRecDepth 100000 in
theorem image_sigNo_org : ∀ c : Dev nD, (Finset.univ.image fun t : Tr => sigNo (org c t) c) = Finset.univ := by
  decide +kernel

/-! ## Semaphores of the transfers -/

/-- The semaphore of transfer `t`: the sender's (`false`) or the receiver's (`true`). -/
def semOf : Bool → Tr → DmaSem sig
  | false, .inl k => sS 0 (sl k)
  | true, .inl k => rS 0 (sl k)
  | false, .inr p => sS (ch p.1) (hp p.2)
  | true, .inr p => rS (ch p.1) (hp p.2)

/-- Which transfer a semaphore belongs to, if any. -/
def dec (i : DmaSem sig) : Option (Bool × Tr) :=
  let n := i.val - 5
  let s := n % 32
  let e := s % 16
  if i.val < 5 then none
  else if n / 32 = 0 then
    if e = 0 then none else some (decide (16 ≤ s), .inl ⟨min 14 (e - 1), by omega⟩)
  else if e = 15 then none else some (decide (16 ≤ s), .inr (⟨min 3 (n / 32 - 1), by omega⟩, ⟨min 14 e, by omega⟩))

set_option maxRecDepth 20000 in
theorem dec_semOf : ∀ (b : Bool) (t : Tr), dec (semOf b t) = some (b, t) := by decide +kernel

theorem semOf_inj {x y : Bool × Tr} (h : semOf x.1 x.2 = semOf y.1 y.2) : x = y := by
  have := congrArg dec h; rw [dec_semOf, dec_semOf] at this; exact Option.some.inj this

/-- The kernel's own semaphores, in order. -/
def ownSem (i : Fin 160) : DmaSem sig := ⟨5 + i.val, by show _ < 165; omega⟩

set_option maxRecDepth 20000 in
theorem le_semOf : ∀ (b : Bool) (t : Tr), 5 ≤ (semOf b t).val := by decide +kernel

/-- The number of a transfer's semaphore among the kernel's own. -/
def ownNo (x : Bool × Tr) : Fin 160 := ⟨(semOf x.1 x.2).val - 5, by have := (semOf x.1 x.2).isLt; have h : sig.nDmaSem = 165 := rfl; have := le_semOf x.1 x.2; omega⟩
theorem ownSem_ownNo (x : Bool × Tr) : ownSem (ownNo x) = semOf x.1 x.2 :=
  Fin.ext (by show 5 + ((semOf x.1 x.2).val - 5) = (semOf x.1 x.2).val; have := le_semOf x.1 x.2; omega)
theorem ownNo_inj : Function.Injective ownNo := fun x y h => semOf_inj (by rw [← ownSem_ownNo, h, ownSem_ownNo])

/-! ## Elements under the views -/

abbrev wgB : Ref sig .tc := cc0_scratch1
abbrev xgB : Ref sig .tc := cc0_scratch0

theorem emb_wgP (s : Fin 16) (q : Fin 4) (j : S256x2048.Idx) :
    (((wgP s q).view.emb j 0 : Fin _) : ℕ) = s.val ∧ (((wgP s q).view.emb j 1 : Fin _) : ℕ) = (j 0).val
      ∧ (((wgP s q).view.emb j 2 : Fin _) : ℕ) = q.val * 2048 + (j 1).val := by
  have e : (wgP s q).view.emb j = (rWg s q).emb (Shape.reshapeEquiv squeezes_S1x256x2048_S256x2048.numel_eq j) := rfl
  rw [e, Shape.reshapeEquiv_cons_one]
  refine ⟨?_, ?_, ?_⟩
  · rw [ValueKit.rect_emb_unit_val]; rfl
  · rw [ValueKit.rect_emb_unit_val]; exact Nat.zero_add _
  · rw [ValueKit.rect_emb_unit_val]; rfl

theorem emb_xgP (s : Fin 16) (j : S256x256.Idx) :
    (((xgP s).view.emb j 0 : Fin _) : ℕ) = s.val ∧ (((xgP s).view.emb j 1 : Fin _) : ℕ) = (j 0).val
      ∧ (((xgP s).view.emb j 2 : Fin _) : ℕ) = (j 1).val := by
  have e : (xgP s).view.emb j = (rXg s).emb (Shape.reshapeEquiv squeezes_S1x256x256_S256x256.numel_eq j) := rfl
  rw [e, Shape.reshapeEquiv_cons_one]
  refine ⟨?_, ?_, ?_⟩
  · rw [ValueKit.rect_emb_unit_val]; rfl
  · rw [ValueKit.rect_emb_unit_val]; exact Nat.zero_add _
  · rw [ValueKit.rect_emb_unit_val]; exact Nat.zero_add _

set_option maxRecDepth 20000 in
theorem off1_eq : ∀ (c : Dev nD) (k : Fin 15), k0_off1 c (BitVec.ofNat 32 (1 + k.val)) = ![256 * (aft c (sl k)).val, 0] := by
  decide +kernel

theorem emb_xP (c : Dev nD) (k : Fin 15) (j : S256x256.Idx) :
    (((xP c k).view.emb j 0 : Fin _) : ℕ) = 256 * (aft c (sl k)).val + (j 0).val ∧ (((xP c k).view.emb j 1 : Fin _) : ℕ) = (j 1).val := by
  have e : (xP c k).view.emb j = (rX c k).emb j := rfl
  rw [e]
  refine ⟨?_, ?_⟩
  · rw [ValueKit.rect_emb_unit_val]; exact congrArg (· + (j 0).val) (congrFun (off1_eq c k) 0)
  · rw [ValueKit.rect_emb_unit_val]; exact (congrArg (· + (j 1).val) (congrFun (off1_eq c k) 1)).trans (Nat.zero_add _)

theorem mem_wgP (s : Fin 16) (q : Fin 4) (i : S16x256x8192.Idx) :
    i ∈ (wgP s q).view.set ↔ (i 0).val = s.val ∧ (i 2).val / 2048 = q.val := by
  have h : (wgP s q).view.set = (rWg s q).set := (View.set_reshape _ _).trans (View.set_slice_whole _ _)
  have h1 : (i 1).val < 256 := (i 1).isLt
  have h2 : (i 2).val < 8192 := (i 2).isLt
  rw [h, Rect.mem_set_unit, Fin.forall_fin_succ, Fin.forall_fin_succ, Fin.forall_fin_succ]
  show (s.val ≤ (i 0).val ∧ (i 0).val < s.val + 1) ∧ (0 ≤ (i 1).val ∧ (i 1).val < 0 + 256)
    ∧ (q.val * 2048 ≤ (i 2).val ∧ (i 2).val < q.val * 2048 + 2048) ∧ _ ↔ _
  constructor
  · rintro ⟨h, -, h', -⟩; omega
  · rintro ⟨h, h'⟩; exact ⟨by omega, by omega, by omega, fun a => a.elim0⟩

theorem mem_xgP (s : Fin 16) (i : S16x256x256.Idx) : i ∈ (xgP s).view.set ↔ (i 0).val = s.val := by
  have h : (xgP s).view.set = (rXg s).set := (View.set_reshape _ _).trans (View.set_slice_whole _ _)
  have h1 : (i 1).val < 256 := (i 1).isLt
  have h2 : (i 2).val < 256 := (i 2).isLt
  rw [h, Rect.mem_set_unit, Fin.forall_fin_succ, Fin.forall_fin_succ, Fin.forall_fin_succ]
  show (s.val ≤ (i 0).val ∧ (i 0).val < s.val + 1) ∧ (0 ≤ (i 1).val ∧ (i 1).val < 0 + 256)
    ∧ (0 ≤ (i 2).val ∧ (i 2).val < 0 + 256) ∧ _ ↔ _
  constructor
  · rintro ⟨h, -, h', -⟩; omega
  · intro h; exact ⟨by omega, by omega, by omega, fun a => a.elim0⟩

theorem mem_xP (c : Dev nD) (k : Fin 15) (i : S4096x256.Idx) :
    i ∈ (xP c k).view.set ↔ (i 0).val / 256 = (aft c (sl k)).val := by
  have h : (xP c k).view.set = (rX c k).set := View.set_slice_whole _ _
  have h1 : (i 1).val < 256 := (i 1).isLt
  have e0 := congrFun (off1_eq c k) 0
  have e1 := congrFun (off1_eq c k) 1
  rw [h, Rect.mem_set_unit, Fin.forall_fin_succ, Fin.forall_fin_succ]
  show (k0_off1 c (BitVec.ofNat 32 (1 + k.val)) 0 ≤ (i 0).val ∧ (i 0).val < k0_off1 c (BitVec.ofNat 32 (1 + k.val)) 0 + 256)
    ∧ (k0_off1 c (BitVec.ofNat 32 (1 + k.val)) 1 ≤ (i 1).val ∧ (i 1).val < k0_off1 c (BitVec.ofNat 32 (1 + k.val)) 1 + 256) ∧ _ ↔ _
  rw [e0, e1]
  show (256 * (aft c (sl k)).val ≤ (i 0).val ∧ (i 0).val < 256 * (aft c (sl k)).val + 256) ∧ (0 ≤ (i 1).val ∧ (i 1).val < 0 + 256) ∧ _ ↔ _
  constructor
  · rintro ⟨h, -⟩; omega
  · intro h; exact ⟨by omega, by omega, fun a => a.elim0⟩

end Cert.RingMM

end
-- ==== Proof.Proto.lean ====
/-
  The protocol: what each semaphore's one round hands over, what a device owes at the start, the levels that order the
  waits, and the contents of the two gathered buffers.
-/
module

public import proofs.«01_k».proof.Proof.Geo
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- Duties are named by number: a barrier has fifteen, every other cell the one numbered zero. -/
abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barCell (c : Dev nD) : GSem nD τ sig := ((c : Thread nD τ), .reg barS)
/-- The cell of transfer `t` on device `c`: as its sender (`false`) or as its receiver (`true`). -/
abbrev trCell (c : Dev nD) (b : Bool) (t : Tr) : GSem nD τ sig := ((c : Thread nD τ), .dma (semOf b t))

/-- What one transfer of the rows, of a quarter of the weights, credits. -/
abbrev NX : ℕ := (xgP 0).view.dmaCredit
abbrev NW : ℕ := (wgP 0 0).view.dmaCredit
def nOf : Tr → ℕ
  | .inl _ => NX
  | .inr _ => NW
theorem nOf_pos (t : Tr) : 0 < nOf t := by
  cases t
  · exact View.dmaCredit_pos _ (by decide)
  · exact View.dmaCredit_pos _ (by decide)

/-! ## Contents -/

abbrev CX (F : FTy → Type) [FloatOps F] : Type := (cc0_stg0_0 : Ref sig .tc).ty.Contents (Elt F)
abbrev CW (F : FTy → Type) [FloatOps F] : Type := (cc0_stg1_0 : Ref sig .tc).ty.Contents (Elt F)

variable (X : Dev nD → CX F) (Wt : Dev nD → CW F)

/-- The gathered weights on device `d`: slot `s` holds those of the device `s` places before. -/
def wgF (d : Dev nD) : (wgB : Ref sig .tc).ty.Contents (Elt F) := fun (i : S16x256x8192.Idx) =>
  Wt (aft d (-(⟨(i 0).val, (i 0).isLt⟩ : Fin 16))) (ix2 (⟨(i 1).val, (i 1).isLt⟩ : Fin 256) (⟨(i 2).val, (i 2).isLt⟩ : Fin 8192))

theorem row_lt (d : Dev nD) {r : ℕ} (h : r < 256) : 256 * d.val + r < 4096 := by
  have h1 : d.val < 16 := d.isLt
  omega

/-- The gathered rows on device `d`: slot `s` holds the rows due to `d` of the device `s` places before. -/
def xgF (d : Dev nD) : (xgB : Ref sig .tc).ty.Contents (Elt F) := fun (i : S16x256x256.Idx) =>
  X (aft d (-(⟨(i 0).val, (i 0).isLt⟩ : Fin 16)))
    (ix2 (⟨256 * d.val + (i 1).val, row_lt d (i 1).isLt⟩ : Fin 4096) (⟨(i 2).val, (i 2).isLt⟩ : Fin 256))

/-! ## Pieces of the buffers -/

/-- A share of quarter `q` of slot `s` of the gathered weights. -/
abbrev pieceW (d : Dev nD) (s : Fin 16) (q : Fin 4) (sh : PosShare TreeShare) (f : (wgB : Ref sig .tc).ty.Contents (Elt F)) : sProp 𝕄 :=
  (wgP s q).view.loc (d : Thread nD τ) ↦[(wgP s q).view.set]{sh} f
/-- A share of slot `s` of the gathered rows. -/
abbrev pieceX (d : Dev nD) (s : Fin 16) (sh : PosShare TreeShare) (f : (xgB : Ref sig .tc).ty.Contents (Elt F)) : sProp 𝕄 :=
  (xgP s).view.loc (d : Thread nD τ) ↦[(xgP s).view.set]{sh} f
/-- A share of the rows of `x` due `k + 1` places on. -/
abbrev pieceR (d : Dev nD) (k : Fin 15) (sh : PosShare TreeShare) (f : CX F) : sProp 𝕄 :=
  (xP d k).view.loc (d : Thread nD τ) ↦[(xP d k).view.set]{sh} f

/-- Where transfer `t` lands on device `d`, whatever it holds. -/
def spot (d : Dev nD) : Tr → sProp 𝕄
  | .inl k => iprop(∃ f, pieceX d (sl k) fullShare f)
  | .inr p => iprop(∃ f, pieceW d (dstSlot p.1 p.2) p.1 fullShare f)
/-- The same once it has landed. -/
def landed (d : Dev nD) : Tr → sProp 𝕄
  | .inl k => pieceX d (sl k) fullShare (xgF X d)
  | .inr p => pieceW d (dstSlot p.1 p.2) p.1 fullShare (wgF Wt d)
/-- The share of the source lent to transfer `t`. -/
def lent (d : Dev nD) : Tr → sProp 𝕄
  | .inl k => pieceR d k fullShare.right (X d)
  | .inr p => pieceW d (srcSlot p.1 p.2) p.1 fullShare.left (wgF Wt d)

/-- What signal `j` to device `c` brings: on the signalling device, the spots of `c`'s transfers that go there. -/
def barPay (c : Dev nD) (j : Fin 15) : sProp 𝕄 :=
  bigSep (Finset.univ.filter fun t : Tr => sigNo c (tgt c t) = j) fun t => spot (tgt c t) t

omit [FloatOps F] in
instance spot_storable [FloatOps F] (d : Dev nD) (t : Tr) : BI.Storable (upEmb : UEmb _ 𝕄) (spot (F := F) d t) := by
  cases t <;> (unfold spot; infer_instance)
instance landed_storable (d : Dev nD) (t : Tr) : BI.Storable (upEmb : UEmb _ 𝕄) (landed X Wt d t) := by
  cases t <;> (unfold landed; infer_instance)
instance lent_storable (d : Dev nD) (t : Tr) : BI.Storable (upEmb : UEmb _ 𝕄) (lent X Wt d t) := by
  cases t <;> (unfold lent; infer_instance)
instance barPay_storable (c : Dev nD) (j : Fin 15) : BI.Storable (upEmb : UEmb _ 𝕄) (barPay (F := F) c j) := by
  unfold barPay; infer_instance

/-! ## The schedule -/

def dutiesOf : SemLoc sig → Finset (Fin 15)
  | .reg s => if s = barS then Finset.univ else ∅
  | .dma i => if (dec i).isSome then {0} else ∅
def amountOf : SemLoc sig → ℕ
  | .reg _ => 1
  | .dma i => match dec i with
    | some (_, t) => nOf t
    | none => 1
def payOf (c : Dev nD) : SemLoc sig → Fin 15 → sProp 𝕄
  | .reg _, j => barPay c j
  | .dma i, _ => match dec i with
    | some (false, t) => lent X Wt c t
    | some (true, t) => landed X Wt c t
    | none => iprop(emp)

/-- One round: a barrier cell has fifteen duties of one unit; a transfer's cell the one duty of its credit. -/
def ringRd : Rounds.Schedule (GSem nD τ sig) (Fin 15) 𝕄 where
  duties g r := if r = 0 ∧ g.1.2 = .tc then dutiesOf g.2 else ∅
  unitless _ := False
  amount g _ _ := amountOf g.2
  payload g _ j := payOf X Wt g.1.1 g.2 j
  amount_pos g _ _ _ := by
    obtain ⟨_, sm⟩ := g
    cases sm with
    | reg s => exact Nat.one_pos
    | dma i =>
      show 0 < amountOf (.dma i)
      unfold amountOf
      dsimp only
      split
      · exact nOf_pos _
      · exact Nat.one_pos

instance ringRd_payload_storable (g : GSem nD τ sig) (r : ℕ) (d : Fin 15) :
    BI.Storable (upEmb : UEmb _ 𝕄) ((ringRd X Wt).payload g r d) := by
  obtain ⟨⟨c, _⟩, sm⟩ := g
  show BI.Storable upEmb (payOf X Wt c sm d)
  cases sm with
  | reg s => show BI.Storable upEmb (barPay c d); infer_instance
  | dma i =>
    unfold payOf
    dsimp only
    split <;> infer_instance

theorem duties_tc (c : Dev nD) (sm : SemLoc sig) : (ringRd X Wt).duties ((c : Thread nD τ), sm) 0 = dutiesOf sm := by
  unfold ringRd; dsimp only; exact if_pos (And.intro rfl rfl)
theorem duties_bar (c : Dev nD) : (ringRd X Wt).duties (barCell c) 0 = Finset.univ := by
  rw [duties_tc]; unfold dutiesOf; exact if_pos rfl
theorem duties_tr (c : Dev nD) (b : Bool) (t : Tr) : (ringRd X Wt).duties (trCell c b t) 0 = {0} := by
  rw [duties_tc]; unfold dutiesOf; exact if_pos (by rw [dec_semOf]; rfl)
theorem duties_later (g : GSem nD τ sig) : ∀ r, 1 ≤ r → (ringRd X Wt).duties g r = ∅ :=
  fun r hr => if_neg fun h => by omega
theorem amount_bar (c : Dev nD) (j : Fin 15) : (ringRd X Wt).amount (barCell c) 0 j = 1 := rfl
theorem amount_tr (c : Dev nD) (b : Bool) (t : Tr) (j : Fin 15) : (ringRd X Wt).amount (trCell c b t) 0 j = nOf t := by
  show amountOf (.dma (semOf b t)) = _
  unfold amountOf; simp only [dec_semOf]
theorem expect_bar (c : Dev nD) : (ringRd X Wt).expect (barCell c) 0 = 15 := by
  unfold Schedule.expect Schedule.amountOf
  rw [duties_bar, Finset.sum_congr rfl fun d _ => amount_bar X Wt c d]; rfl
theorem expect_tr (c : Dev nD) (b : Bool) (t : Tr) : (ringRd X Wt).expect (trCell c b t) 0 = nOf t := by
  unfold Schedule.expect Schedule.amountOf; rw [duties_tr, Finset.sum_singleton, amount_tr]
theorem payload_bar (c : Dev nD) (j : Fin 15) : (ringRd X Wt).payload (barCell c) 0 j = barPay c j := rfl
theorem payload_send (c : Dev nD) (t : Tr) (j : Fin 15) : (ringRd X Wt).payload (trCell c false t) 0 j = lent X Wt c t := by
  show payOf X Wt c (.dma (semOf false t)) j = _
  unfold payOf; simp only [dec_semOf]
theorem payload_recv (c : Dev nD) (t : Tr) (j : Fin 15) : (ringRd X Wt).payload (trCell c true t) 0 j = landed X Wt c t := by
  show payOf X Wt c (.dma (semOf true t)) j = _
  unfold payOf; simp only [dec_semOf]

/-- The barrier's whole round: the spot of every transfer, on the device it goes to. -/
theorem rest_bar (c : Dev nD) : bigSep ((ringRd X Wt).duties (barCell c) 0 \ ∅) (fun d => (ringRd X Wt).payload (barCell c) 0 d)
    = bigSep Finset.univ fun t : Tr => (spot (tgt c t) t : sProp 𝕄) := by
  rw [Finset.sdiff_empty, duties_bar, bigSep_fiberwise Finset.univ (fun t : Tr => sigNo c (tgt c t)), image_sigNo_tgt]
  rfl
theorem rest_send (c : Dev nD) (t : Tr) :
    bigSep ((ringRd X Wt).duties (trCell c false t) 0 \ ∅) (fun d => (ringRd X Wt).payload (trCell c false t) 0 d) = lent X Wt c t := by
  rw [Finset.sdiff_empty, duties_tr, bigSep_singleton, payload_send]
theorem rest_recv (c : Dev nD) (t : Tr) :
    bigSep ((ringRd X Wt).duties (trCell c true t) 0 \ ∅) (fun d => (ringRd X Wt).payload (trCell c true t) 0 d) = landed X Wt c t := by
  rw [Finset.sdiff_empty, duties_tr, bigSep_singleton, payload_recv]

/-- The spots on device `d`, grouped by the signal each goes out with. -/
theorem spots_out (d : Dev nD) : (bigSep Finset.univ fun t : Tr => (spot d t : sProp 𝕄))
    = bigSep Finset.univ fun j : Fin 15 => barPay (F := F) (nb d j) j := by
  rw [bigSep_fiberwise Finset.univ (fun t : Tr => sigNo (org d t) d), image_sigNo_org]
  refine bigSep_congr fun j _ => ?_
  unfold barPay
  rw [Finset.filter_congr (q := fun t : Tr => sigNo (nb d j) (tgt (nb d j) t) = j) fun t _ => (sigNo_org d j t).trans (sigNo_iff d j t).symm]
  refine bigSep_congr fun t ht => ?_
  rw [(sigNo_iff d j t).mp (Finset.mem_filter.mp ht).2]

/-! ## What is owed; the levels -/

/-- The signals not yet sent after the first `n`. -/
def oweB (c : Dev nD) (n : ℕ) : CellTallies nD τ sig Unit :=
  ∑ j ∈ Finset.univ.filter (fun j : Fin 15 => n ≤ j.val), tallyAt (barCell (nb c j)) () 1
/-- The transfers for which `p` holds. -/
def oweT (c : Dev nD) (p : Tr → Prop) [DecidablePred p] : CellTallies nD τ sig Unit :=
  ∑ t ∈ Finset.univ.filter p, tallyAt (trCell (tgt c t) true t) () (nOf t)

/-- Transfers not yet started: rows from the `n`-th on, and of quarter `q` the hops from the `b q`-th on. -/
abbrev todo (n : ℕ) (b : Fin 4 → ℕ) : Tr → Prop
  | .inl k => n ≤ k.val
  | .inr p => b p.1 ≤ p.2.val
instance (n : ℕ) (b : Fin 4 → ℕ) : DecidablePred (todo n b) := fun t => by cases t <;> (unfold todo; infer_instance)

def O₀ (c : Dev nD) : CellTallies nD τ sig Unit := oweT c (todo 0 fun _ => 0) + oweB c 0

/-- One summand taken out of a sum over the indices with a property. -/
theorem sum_filter_peel {I M : Type} [Fintype I] [DecidableEq I] [AddCommMonoid M] {p p' : I → Prop} [DecidablePred p] [DecidablePred p'] (x : I)
    (h : ∀ i, p i ↔ p' i ∨ i = x) (hx : ¬ p' x) (f : I → M) :
    ∑ i ∈ Finset.univ.filter p, f i = (∑ i ∈ Finset.univ.filter p', f i) + f x := by
  have e : Finset.univ.filter p = insert x (Finset.univ.filter p') := by
    ext i
    rw [Finset.mem_filter, Finset.mem_insert, Finset.mem_filter, h i]
    constructor
    · rintro ⟨-, h | h⟩
      · exact Or.inr ⟨Finset.mem_univ _, h⟩
      · exact Or.inl h
    · rintro (h | ⟨-, h⟩)
      · exact ⟨Finset.mem_univ _, Or.inr h⟩
      · exact ⟨Finset.mem_univ _, Or.inl h⟩
  rw [e, Finset.sum_insert (fun h => hx (Finset.mem_filter.mp h).2), add_comm]

theorem oweB_peel (c : Dev nD) (j : Fin 15) : oweB c j.val = oweB c (j.val + 1) + tallyAt (barCell (nb c j)) () 1 :=
  sum_filter_peel j (fun i => by rw [Fin.ext_iff]; omega) (by omega) _
theorem oweB_end (c : Dev nD) : oweB c 15 = 0 := by
  unfold oweB
  rw [Finset.filter_false_of_mem (fun j _ => by omega), Finset.sum_empty]

theorem oweT_peel (c : Dev nD) {p p' : Tr → Prop} [DecidablePred p] [DecidablePred p'] (t : Tr)
    (h : ∀ i, p i ↔ p' i ∨ i = t) (hx : ¬ p' t) : oweT c p = oweT c p' + tallyAt (trCell (tgt c t) true t) () (nOf t) :=
  sum_filter_peel t h hx _
theorem oweT_end (c : Dev nD) {b : Fin 4 → ℕ} (hb : ∀ q, 15 ≤ b q) : oweT c (todo 15 b) = 0 := by
  unfold oweT
  rw [Finset.filter_false_of_mem (fun t _ => by
    rcases t with k | p
    · show ¬ 15 ≤ k.val; omega
    · show ¬ b p.1 ≤ p.2.val; have := hb p.1; omega), Finset.sum_empty]

theorem sum_tally_pos {I : Type} [DecidableEq I] (s : Finset I) (f : I → CellTallies nD τ sig Unit) {g : GSem nD τ sig} {u : Unit}
    (h : 0 < (∑ i ∈ s, f i) g u) : ∃ i ∈ s, 0 < f i g u := by
  induction s using Finset.induction_on with
  | empty => exact absurd h (Nat.lt_irrefl 0)
  | insert i s hi ih =>
    rw [Finset.sum_insert hi, Pi.add_apply, Finsupp.add_apply] at h
    rcases Nat.eq_zero_or_pos (f i g u) with h0 | h0
    · rw [h0, Nat.zero_add] at h
      obtain ⟨j, hj, hp⟩ := ih h
      exact ⟨j, Finset.mem_insert_of_mem hj, hp⟩
    · exact ⟨i, Finset.mem_insert_self _ _, h0⟩

theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

theorem oweT_pos {c : Dev nD} {p : Tr → Prop} [DecidablePred p] {g : GSem nD τ sig} {u : Unit} (h : 0 < oweT c p g u) :
    ∃ t, p t ∧ g = trCell (tgt c t) true t := by
  obtain ⟨t, ht, h⟩ := sum_tally_pos _ _ h
  exact ⟨t, (Finset.mem_filter.mp ht).2, tally_pos h⟩
theorem oweB_pos {c : Dev nD} {n : ℕ} {g : GSem nD τ sig} {u : Unit} (h : 0 < oweB c n g u) : ∃ j, g = barCell (nb c j) := by
  obtain ⟨j, -, h⟩ := sum_tally_pos _ _ h
  exact ⟨j, tally_pos h⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Arrivals of rows come before the arrivals of the hops, those in order; barriers before all of them; the rest is at 0. -/
def lvT : Tr → ℕ
  | .inl _ => 2
  | .inr p => 3 + p.2.val
def lvS : SemLoc sig → ℕ
  | .reg _ => 1
  | .dma i => match dec i with
    | some (true, t) => lvT t
    | _ => 0
def lv (g : GSem nD τ sig) (_ : Unit) : ℕ := lvS g.2

theorem lv_recv (c : Dev nD) (t : Tr) (u : Unit) : lv (trCell c true t) u = lvT t := by
  show lvS (.dma (semOf true t)) = _
  unfold lvS; simp only [dec_semOf]

/-- A wait is allowed when everything owed is above its cell. -/
theorem mayWait_of (c : Dev nD) (sm : SemLoc sig) {p : Tr → Prop} [DecidablePred p] (h : ∀ t, p t → lvS sm < lvT t) :
    (levAts L lv : sProp 𝕄) ⊢ MayWait (c : Thread nD τ) sm () (oweT c p) :=
  MayOwe.of_cut (L := L) (lev := lv) (lvS sm) (fun p hp => by rw [Finset.mem_singleton.mp hp, L_tc]; exact Finset.mem_singleton_self _)
    (fun g u hg => by obtain ⟨t, -, rfl⟩ := oweT_pos hg; rw [L_tc]; exact Finset.mem_singleton_self _)
    (fun p hp => by rw [Finset.mem_singleton.mp hp]; exact le_refl _)
    (fun g u hg => by obtain ⟨t, ht, rfl⟩ := oweT_pos hg; rw [lv_recv]; exact h t ht)

/-- The waits for the staged inputs and for the result's way out. -/
theorem mayWait_stage (c : Dev nD) (i : DmaSem sig) (hi : dec i = none) (O : CellTallies nD τ sig Unit) (hO : O = O₀ c ∨ O = 0) :
    (levAts L lv : sProp 𝕄) ⊢ MayWait (c : Thread nD τ) (.dma i) () O := by
  have h0 : lvS (.dma i : SemLoc sig) = 0 := by unfold lvS; simp only [hi]
  have hpos : ∀ g u, 0 < O₀ c g u → (∃ t, g = trCell (tgt c t) true t) ∨ ∃ j, g = barCell (nb c j) := fun g u hg => by
    unfold O₀ at hg
    rw [Pi.add_apply, Finsupp.add_apply] at hg
    rcases Nat.eq_zero_or_pos (oweT c (todo 0 fun _ => 0) g u) with h | h
    · rw [h, Nat.zero_add] at hg; exact Or.inr (oweB_pos hg)
    · obtain ⟨t, -, h⟩ := oweT_pos h; exact Or.inl ⟨t, h⟩
  rcases hO with rfl | rfl
  · exact MayOwe.of_cut (L := L) (lev := lv) 0 (fun p hp => by rw [Finset.mem_singleton.mp hp, L_tc]; exact Finset.mem_singleton_self _)
      (fun g u hg => by rcases hpos g u hg with ⟨t, rfl⟩ | ⟨j, rfl⟩ <;> (rw [L_tc]; exact Finset.mem_singleton_self _))
      (fun p hp => by rw [Finset.mem_singleton.mp hp]; exact le_of_eq h0)
      (fun g u hg => by
        rcases hpos g u hg with ⟨t, rfl⟩ | ⟨j, rfl⟩
        · rw [lv_recv]; cases t
          · exact Nat.succ_pos 1
          · show 0 < 3 + _; omega
        · exact Nat.one_pos)
  · rw [MayWait_zero]; iintro -; iempintro

end Cert.RingMM

end
-- ==== Proof.Steps.lean ====
/-
  What each step of the body does to the state a device holds: the transfers started, arrived and drained, and what is
  owed.
-/
module

public import proofs.«01_k».proof.Proof.Proto

@[expose] public section

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (chain)
open scoped Classical

variable {F : FTy → Type} [FloatOps F]

local notation "𝕄" => MT nD τ sig Unit (Elt F) ℕ UU ℕ

abbrev 𝒱₀ : Variants := Variants.none

/-! ## Records: what every device knows throughout -/

/-- The cells of the protocol: per device its barrier, and both ends of every transfer. -/
abbrev CI : Type := Dev nD × Option (Bool × Tr)
def cellAt : CI → GSem nD τ sig
  | (c, none) => barCell c
  | (c, some x) => trCell c x.1 x.2

variable (X : Dev nD → CX F) (Wt : Dev nD → CW F) (K : CI → ℕ)

/-- Every cell's invariant and that it has reached round 0, and the levels. -/
def recs : sProp 𝕄 :=
  iprop((bigSep Finset.univ fun p : CI => iprop(cellInv ER (ringRd X Wt) (K p) (cellAt p) ∗ reached ER (cellAt p) 0)) ∗ levAts L lv)

instance recs_persistent : BI.Persistent (recs X Wt K) := by unfold recs; infer_instance

theorem recs_at (p : CI) : recs X Wt K ⊢ iprop(cellInv ER (ringRd X Wt) (K p) (cellAt p) ∗ reached ER (cellAt p) 0) := by
  unfold recs
  iintro ⟨H, -⟩
  have h : (bigSep Finset.univ fun p : CI => iprop(cellInv ER (ringRd X Wt) (K p) (cellAt p) ∗ reached ER (cellAt p) 0) : sProp 𝕄)
      ⊢ iprop(cellInv ER (ringRd X Wt) (K p) (cellAt p) ∗ reached ER (cellAt p) 0) := bigSep_elim (Finset.mem_univ p)
  iapply h $$ H
theorem recs_inv (p : CI) : recs X Wt K ⊢ cellInv ER (ringRd X Wt) (K p) (cellAt p) := (recs_at X Wt K p).trans (by iintro ⟨H, -⟩; iexact H)
theorem recs_reached (p : CI) : recs X Wt K ⊢ reached ER (cellAt p) 0 := (recs_at X Wt K p).trans (by iintro ⟨-, H⟩; iexact H)
theorem recs_lev : recs X Wt K ⊢ levAts L lv := by unfold recs; iintro ⟨-, H⟩; iexact H

/-! ## Triples -/

/-- From `P` device `c`'s program `e` runs to `Q`. -/
def T (c : Dev nD) (P : sProp 𝕄) (e : PP F) (Q : sProp 𝕄) : Prop :=
  iprop(recs X Wt K ∗ P) ⊢ wp frame (wpE (defs₀ (F := F)) 𝒱₀ (c : Thread nD τ) none) Set.univ e fun _ => Q

variable {X Wt K} {c : Dev nD}

theorem T.conseq {P P' Q Q' : sProp 𝕄} {e : PP F} (hP : P' ⊢ P) (h : T X Wt K c P e Q) (hQ : Q ⊢ Q') : T X Wt K c P' e Q' :=
  ((sep_mono_right hP).trans h).trans (wp_mono _ _ _ fun _ => hQ)

theorem T.seq {P Q R : sProp 𝕄} {e e' : PP F} (h : T X Wt K c P e Q) (h' : T X Wt K c Q e' R) : T X Wt K c P (e >>= fun _ => e') R := by
  unfold T at h h' ⊢
  rw [wp_bind]
  have h2 : iprop(recs X Wt K ∗ P) ⊢ iprop(recs X Wt K ∗ wp frame (wpE (defs₀ (F := F)) 𝒱₀ (c : Thread nD τ) none) Set.univ e fun _ => Q) := by
    iintro ⟨#H, HP⟩
    isplitr; · iexact H
    iapply h
    isplitr; · iexact H
    iexact HP
  exact h2.trans ((wp_frame_l _ _ _).trans (wp_mono _ _ _ fun _ => h'))

theorem T.frame {P Q : sProp 𝕄} {e : PP F} (R : sProp 𝕄) (h : T X Wt K c P e Q) : T X Wt K c iprop(P ∗ R) e iprop(Q ∗ R) := by
  unfold T at h ⊢
  refine BIBase.Entails.trans ?_ (wp_frame_r _ _ _)
  iintro ⟨#H, HP, HR⟩
  isplitr [HR]
  · iapply h
    isplitr; · iexact H
    iexact HP
  iexact HR

theorem T.nil {P : sProp 𝕄} : T X Wt K c P (pure ⟨⟩) P := by
  unfold T
  rw [wp_pure]
  iintro ⟨-, H⟩
  imodintro
  iexact H

/-- A list of steps along a family of states. -/
theorem T.chain {I : Type} (f : I → PP F) : ∀ (l : List I) (S : ℕ → sProp 𝕄), (∀ (i : ℕ) (h : i < l.length), T X Wt K c (S i) (f l[i]) (S (i + 1))) →
    T X Wt K c (S 0) (chain (l.map f)) (S l.length)
  | [], S, _ => T.nil
  | x :: l, S, h => T.seq (h 0 (Nat.succ_pos _)) (T.chain f l (fun i => S (i + 1)) fun i hi => h (i + 1) (Nat.succ_lt_succ hi))

/-! ## Families of states -/

/-- `A` for those with the property, `B` for the others. -/
def fam {I : Type} [Fintype I] (A B : I → sProp 𝕄) (p : I → Prop) : sProp 𝕄 := bigSep Finset.univ fun i => if p i then A i else B i

/-- One summand with the property taken out of a family, the rest being also the rest of the family with it moved over. -/
theorem fam_step {I : Type} [Fintype I] (A B : I → sProp 𝕄) {p p' : I → Prop} (x : I) (h : ∀ i, p i ↔ p' i ∨ i = x) (hx : ¬ p' x) :
    ∃ R : sProp 𝕄, fam A B p = iprop(A x ∗ R) ∧ fam A B p' = iprop(B x ∗ R) := by
  unfold fam
  refine ⟨bigSep (Finset.univ.erase x) fun i => if p' i then A i else B i, ?_, ?_⟩
  · rw [bigSep_univ_at _ x, if_pos ((h x).mpr (Or.inr rfl))]
    congr 1
    refine bigSep_congr fun i hi => ?_
    have hne : i ≠ x := Finset.ne_of_mem_erase hi
    by_cases hp : p' i
    · rw [if_pos hp, if_pos ((h i).mpr (Or.inl hp))]
    · rw [if_neg hp, if_neg fun h' => ((h i).mp h').elim hp hne]
  · rw [bigSep_univ_at _ x, if_neg hx]

/-! ## What a device holds -/

/-- What is owed, whatever waits are on record. -/
def OW (c : Dev nD) (O : CellTallies nD τ sig Unit) : sProp 𝕄 := iprop(∃ W, owes (c : Thread nD τ) O W)

/-- Transfer `t` of device `c` not started: the right to signal at both ends, and the spot it goes to. -/
def unsent (c : Dev nD) (t : Tr) : sProp 𝕄 :=
  iprop(atPos ER (trCell c false t) 0 ∅ 0 ∗ dutyTok ER (trCell c false t) 0 0 ∗ dutyTok ER (trCell (tgt c t) true t) 0 0 ∗ spot (tgt c t) t)
/-- Started, not yet waited for. -/
def sent (c : Dev nD) (t : Tr) : sProp 𝕄 :=
  iprop(atPos ER (trCell c false t) 0 ∅ 0 ∗ cred (tallyAt (trCell c false t) () (nOf t)))
variable (X Wt) in
/-- Waited for: its semaphore at zero, the share of the source back. -/
def drained (c : Dev nD) (t : Tr) : sProp 𝕄 := iprop(semVal (trCell c false t) 0 ∗ lent X Wt c t)
/-- Transfer `t` to device `c` not yet waited for. -/
def awaited (c : Dev nD) (t : Tr) : sProp 𝕄 :=
  iprop(atPos ER (trCell c true t) 0 ∅ 0 ∗ cred (tallyAt (trCell c true t) () (nOf t)))
variable (X Wt) in
/-- Waited for: its semaphore at zero, and of what landed the part kept. -/
def kept (c : Dev nD) (t : Tr) : sProp 𝕄 :=
  iprop(semVal (trCell c true t) 0 ∗ match t with
    | .inl k => pieceX c (sl k) fullShare (xgF X c)
    | .inr p => pieceW c (dstSlot p.1 p.2) p.1 fullShare.right (wgF Wt c))

def outs (c : Dev nD) (p : Tr → Prop) : sProp 𝕄 := fam (unsent c) (sent c) p
variable (X Wt) in
def drs (c : Dev nD) (p : Tr → Prop) : sProp 𝕄 := fam (sent c) (drained X Wt c) p
variable (X Wt) in
def ins (c : Dev nD) (p : Tr → Prop) : sProp 𝕄 := fam (awaited c) (kept X Wt c) p

/-! ## The three kinds of transfer steps -/

variable (X Wt K c)

/-- Starting a transfer, for any two views between which it carries the contents it should. -/
theorem send_step {sp : CoreSpace} {s : Shape} (t : Tr) (src dst : Memref sig .tc sp s .fp8e5m2) (n : Dev nD) (hn : n = tgt c t)
    (sh : PosShare TreeShare) (fs : Buf (Elt F) (src.view.loc (c : Thread nD τ)))
    {hsc : (dst : Memref sig (Dev.tc n : Thread nD τ).2.kind sp s .fp8e5m2).view.ref.isScScratch = false}
    {hsrc : src.view.WordExact} {hdst : dst.view.WordExact}
    {hsem : DmaTarget.Typed sp (.dma (semOf true t)) (.remote (Dev.tc n : Thread nD τ) dst (.dma (semOf false t)) hsc)}
    (hN : dst.view.dmaCredit = nOf t)
    (hl : lent X Wt c t = (src.view.loc (c : Thread nD τ) ↦[src.view.set]{sh} fs))
    (hs : (spot (tgt c t) t : sProp 𝕄) ⊢ iprop(∃ f, dst.view.loc (tgt c t : Thread nD τ) ↦[dst.view.set]{fullShare} f))
    (hd : ∀ fd : Buf (Elt F) (dst.view.loc (tgt c t : Thread nD τ)),
      (dst.view.loc (tgt c t : Thread nD τ) ↦[dst.view.set]{fullShare} (dst.view.write (Elt F) fd (src.view.read (Elt F) fs) Finset.univ) : sProp 𝕄)
        ⊢ landed X Wt (tgt c t) t)
    {O O' : CellTallies nD τ sig Unit} (hO : O = O' + tallyAt (trCell (tgt c t) true t) () (nOf t)) :
    T X Wt K c iprop(lent X Wt c t ∗ unsent c t ∗ OW c O)
      (Prog.lift (.enqueueDma src (.remote (Dev.tc n : Thread nD τ) dst (.dma (semOf false t)) hsc) (.dma (semOf true t)) hsrc hdst hsem))
      iprop(sent c t ∗ OW c O') := by
  subst hn
  unfold T unsent sent OW Prog.lift
  iintro ⟨#HR, Hl, ⟨Hpos, HtS, HtV, Hsp⟩, ⟨%W, HO⟩⟩
  ihave Hl' := (Entails.of_eq hl) $$ Hl
  ihave Hsp' := hs $$ Hsp
  icases Hsp' with ⟨%fd, Hd⟩
  iapply (Rounds.wp_send_pointsTo 𝒱₀ ER (ringRd X Wt) (c : Thread nD τ) none (κ₁ := K (c, some (false, t))) (κ₂ := K (tgt c t, some (true, t)))
    (r₁ := 0) (r₂ := 0) (d₁ := 0) (d₂ := 0) (fd := fd)
    (by rw [duties_tr]; exact Finset.mem_singleton_self _) (by rw [duties_tr]; exact Finset.mem_singleton_self _)
    () () (nOf t) (show dst.view.amount (.dma (semOf true t)) = nOf t from hN) (amount_tr X Wt c false t 0) (amount_tr X Wt (tgt c t) true t 0) O' hO (W := W)
    (by rw [payload_send]; exact Entails.of_eq hl.symm)
    (by rw [payload_recv]; exact hd fd)) $$ [Hl' Hd HO HtS HtV]
  · isplitr; · iapply (recs_inv X Wt K (c, some (false, t))); iexact HR
    isplitr; · iapply (recs_inv X Wt K (tgt c t, some (true, t))); iexact HR
    isplitl [Hl']; · iexact Hl'
    isplitl [Hd]; · iexact Hd
    isplitl [HO]; · iexact HO
    isplitl [HtS]; · iexact HtS
    isplitr; · iapply (recs_reached X Wt K (c, some (false, t))); iexact HR
    isplitl [HtV]; · iexact HtV
    iapply (recs_reached X Wt K (tgt c t, some (true, t))); iexact HR
  iintro ⟨Hc, HO⟩
  rw [wp_ret]; imodintro
  isplitl [Hpos Hc]
  · isplitl [Hpos]; · iexact Hpos
    iexact Hc
  iexists W; iexact HO

set_option maxRecDepth 8000 in
/-- Waiting for a transfer's cell, its semaphore then at zero. -/
theorem wait_step {sp sp' : CoreSpace} {s : Shape} (b : Bool) (t : Tr) (src : Memref sig .tc sp s .fp8e5m2) (dst : Memref sig .tc sp' s .fp8e5m2)
    {hsrc : src.view.WordExact} {hdst : dst.view.WordExact} (hN : dst.view.dmaCredit = nOf t)
    (O : CellTallies nD τ sig Unit) (hW : (levAts L lv : sProp 𝕄) ⊢ MayWait (c : Thread nD τ) (.dma (semOf b t)) () O)
    (pay : sProp 𝕄) (hp : bigSep ((ringRd X Wt).duties (trCell c b t) 0 \ ∅) (fun d => (ringRd X Wt).payload (trCell c b t) 0 d) = pay) :
    T X Wt K c iprop((atPos ER (trCell c b t) 0 ∅ 0 ∗ cred (tallyAt (trCell c b t) () (nOf t))) ∗ OW c O)
      (Prog.lift (.waitDma2 (semOf b t) src dst hsrc hdst)) iprop((semVal (trCell c b t) 0 ∗ pay) ∗ OW c O) := by
  unfold T OW Prog.lift
  iintro ⟨#HR, ⟨Hpos, Hc⟩, ⟨%W, HO⟩⟩
  ihave Hc := (Entails.of_eq (congrArg (fun n => (cred (tallyAt (trCell c b t) () n) : sProp 𝕄)) hN.symm)) $$ Hc
  iapply (Rounds.wp_wait_rest_token 𝒱₀ ER (ringRd X Wt) (c : Thread nD τ) none (κ := K (c, some (b, t))) (sm := .dma (semOf b t)) (k' := dst.view.dmaCredit)
      (wpE_waitDma2_eq 𝒱₀ (c : Thread nD τ) none Set.univ) (Set.mem_univ _) () (O := O) (W := W) (R := 0) (m := 0) (T := ∅)
      (by rw [Nat.zero_add, expect_tr]; exact hN)) $$ [Hc HO Hpos]
  · isplitr; · iapply (recs_inv X Wt K (c, some (b, t))); iexact HR
    isplitl [Hc]; · iexact Hc
    isplitl [HO]; · iexact HO
    isplitr; · ihave Hm := ((recs_lev X Wt K).trans hW) $$ HR; iexact Hm
    iexact Hpos
  iintro ⟨HO, Hpos, -, Hpay⟩
  ihave Hp := (Entails.of_eq hp) $$ Hpay
  imod (Rounds.cell_close ER (ringRd X Wt) (Set.mem_univ (K (c, some (b, t)))) (fun h => h) (R := 0 + 1) (duties_later X Wt (trCell c b t))) $$ [Hpos] with Hz
  · isplitr; · iapply (recs_inv X Wt K (c, some (b, t))); iexact HR
    iexact Hpos
  rw [wp_ret]; imodintro
  isplitl [Hz Hp]
  · isplitl [Hz]; · iexact Hz
    iexact Hp
  iexists _; iexact HO

end Cert.RingMM

end
-- ==== Proof.Conts.lean ====
/-
  Contents: what a transfer leaves where it lands, what the staging stores leave in slot 0, and the result read and
  written half by half.
-/
module

public import proofs.«01_k».proof.Proof.Steps

@[expose] public section

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (X : Dev nD → CX F) (Wt : Dev nD → CW F)

/-- Indices of the two gathered buffers. -/
abbrev IW : Type := S16x256x8192.Idx
abbrev IX : Type := S16x256x256.Idx
/-- The slot an index lies in. -/
def slotW (i : IW) : Fin 16 := ⟨(i 0).val, (i 0).isLt⟩
def slotX (i : IX) : Fin 16 := ⟨(i 0).val, (i 0).isLt⟩

theorem ix2_eq {n m : ℕ} {a a' : Fin n} {b b' : Fin m} (ha : a.val = a'.val) (hb : b.val = b'.val) :
    (ix2 a b : (⟨2, ![n, m]⟩ : Shape).Idx) = ix2 a' b' := by
  rw [Fin.ext ha, Fin.ext hb]

/-- The gathered weights at an index, from the device and the place they come from. -/
theorem wgF_at (d e : Dev nD) (i : IW) (j : S256x8192.Idx) (he : aft d (-slotW i) = e) (h0 : (j 0).val = (i 1).val) (h1 : (j 1).val = (i 2).val) :
    wgF Wt d i = Wt e j := by
  subst he
  show Wt (aft d (-slotW i)) _ = _
  congr 1
  funext a
  revert a
  rw [Fin.forall_fin_two]
  exact ⟨Fin.ext h0.symm, Fin.ext h1.symm⟩

theorem xgF_at (d e : Dev nD) (i : IX) (j : S4096x256.Idx) (he : aft d (-slotX i) = e) (h0 : (j 0).val = 256 * d.val + (i 1).val) (h1 : (j 1).val = (i 2).val) :
    xgF X d i = X e j := by
  subst he
  show X (aft d (-slotX i)) _ = _
  congr 1
  funext a
  revert a
  rw [Fin.forall_fin_two]
  exact ⟨Fin.ext h0.symm, Fin.ext h1.symm⟩

theorem aft_back : ∀ (s w : Fin 16), w + -(s + w) = -s := by decide

/-- What hop `h` of quarter `q` leaves on the neighbour is that device's gathered contents. -/
theorem land_w (c : Dev nD) (q : Fin 4) (h : Fin 15) (fd : Buf (Elt F) ((wgP (dstSlot q h) q).view.loc (tgt c (.inr (q, h)) : Thread nD τ))) :
    ((wgP (dstSlot q h) q).view.loc (tgt c (.inr (q, h)) : Thread nD τ) ↦[(wgP (dstSlot q h) q).view.set]{fullShare}
        ((wgP (dstSlot q h) q).view.write (Elt F) fd ((wgP (srcSlot q h) q).view.read (Elt F) (wgF Wt c)) Finset.univ) : sProp 𝕄)
      ⊢ landed X Wt (tgt c (.inr (q, h))) (.inr (q, h)) := by
  refine Entails.of_eq (pointsTo_congr fun i hi => ?_)
  obtain ⟨j, -, rfl⟩ := Finset.mem_map.mp hi
  rw [View.write_emb_of_mem _ _ (Finset.mem_univ j)]
  obtain ⟨s0, s1, s2⟩ := emb_wgP (srcSlot q h) q j
  obtain ⟨d0, d1, d2⟩ := emb_wgP (dstSlot q h) q j
  have hs : slotW ((wgP (srcSlot q h) q).view.emb j) = srcSlot q h := Fin.ext s0
  have hd : slotW ((wgP (dstSlot q h) q).view.emb j) = dstSlot q h := Fin.ext d0
  have e1 := wgF_at Wt c (aft c (-srcSlot q h)) ((wgP (srcSlot q h) q).view.emb j)
    (ix2 (⟨((wgP (srcSlot q h) q).view.emb j 1).val, ((wgP (srcSlot q h) q).view.emb j 1).isLt⟩ : Fin 256) (⟨((wgP (srcSlot q h) q).view.emb j 2).val, ((wgP (srcSlot q h) q).view.emb j 2).isLt⟩ : Fin 8192))
    (by rw [hs]) rfl rfl
  have e2 := wgF_at Wt (tgt c (.inr (q, h))) (aft c (-srcSlot q h)) ((wgP (dstSlot q h) q).view.emb j)
    (ix2 (⟨((wgP (srcSlot q h) q).view.emb j 1).val, ((wgP (srcSlot q h) q).view.emb j 1).isLt⟩ : Fin 256) (⟨((wgP (srcSlot q h) q).view.emb j 2).val, ((wgP (srcSlot q h) q).view.emb j 2).isLt⟩ : Fin 8192))
    (by rw [hd, dstSlot_eq]; unfold tgt; rw [aft_aft]; exact congrArg (aft c) (aft_back (srcSlot q h) (way q)))
    (s1.trans d1.symm) (s2.trans d2.symm)
  exact e1.trans e2.symm

/-- What the rows' transfer leaves on the device it goes to. -/
theorem land_x (c : Dev nD) (k : Fin 15) (fd : Buf (Elt F) ((xgP (sl k)).view.loc (tgt c (.inl k) : Thread nD τ))) :
    ((xgP (sl k)).view.loc (tgt c (.inl k) : Thread nD τ) ↦[(xgP (sl k)).view.set]{fullShare}
        ((xgP (sl k)).view.write (Elt F) fd ((xP c k).view.read (Elt F) (X c)) Finset.univ) : sProp 𝕄)
      ⊢ landed X Wt (tgt c (.inl k)) (.inl k) := by
  refine Entails.of_eq (pointsTo_congr fun i hi => ?_)
  obtain ⟨j, -, rfl⟩ := Finset.mem_map.mp hi
  rw [View.write_emb_of_mem _ _ (Finset.mem_univ j)]
  obtain ⟨s0, s1⟩ := emb_xP c k j
  obtain ⟨d0, d1, d2⟩ := emb_xgP (sl k) j
  have hd : slotX ((xgP (sl k)).view.emb j) = sl k := Fin.ext d0
  have e2 := xgF_at X (tgt c (.inl k)) c ((xgP (sl k)).view.emb j) ((xP c k).view.emb j)
    (by rw [hd]; unfold tgt; rw [aft_aft]; exact (congrArg (aft c) (addN (sl k))).trans (aft_zero c))
    (s0.trans (by rw [d1]; rfl)) (s1.trans d2.symm)
  exact e2.symm

/-- What the staging store of quarter `q` leaves in slot 0. -/
theorem stage_w (c : Dev nD) (q : Fin 4) (f : (wgB : Ref sig .tc).ty.Contents (Elt F)) (i : IW) (hi : i ∈ (wgP 0 q).view.set) :
    (wgM.access (rWg 0 q) : View sig .tc _ _ _).write (Elt F) f (k0_pay2 (wM.view.readAt (Elt F) (rW q).toLoadRect (Wt c))) Finset.univ i = wgF Wt c i := by
  obtain ⟨j, -, rfl⟩ := Finset.mem_map.mp hi
  obtain ⟨d0, d1, d2⟩ := emb_wgP 0 q j
  have e : (wgP 0 q).view.emb j = (wgM.access (rWg 0 q) : View sig .tc _ _ _).emb (ix3 (0 : Fin 1) (j 0) (j 1)) := by
    have e' : (wgP 0 q).view.emb j = (wgM.access (rWg 0 q) : View sig .tc _ _ _).emb (Shape.reshapeEquiv squeezes_S1x256x2048_S256x2048.numel_eq j) := rfl
    rw [e', Shape.reshapeEquiv_cons_one]
    congr 1
    funext a; revert a
    rw [Fin.forall_fin_succ, Fin.forall_fin_two]
    exact ⟨rfl, rfl, rfl⟩
  have hw := wgF_at Wt c c ((wgP 0 q).view.emb j) ((rW q).emb j) (by
      rw [show slotW ((wgP 0 q).view.emb j) = 0 from Fin.ext d0]; exact aft_zero c)
    (by rw [ValueKit.rect_emb_unit_val, d1]; exact Nat.zero_add _) (by rw [ValueKit.rect_emb_unit_val, d2]; rfl)
  rw [hw, e, View.write_emb_of_mem _ _ (Finset.mem_univ _)]
  show k0_pay2 (wM.view.readAt (Elt F) (rW q).toLoadRect (Wt c)) (ix3 (0 : Fin 1) (j 0) (j 1)) = _
  unfold k0_pay2
  dsimp only
  rw [shapeCast_self]
  refine (shapeCast_ab_1ab_apply _ _ _ _ _).trans ?_
  show Wt c ((rW q).emb (ix2 (j 0) (j 1))) = _
  congr 2
  funext a; revert a
  rw [Fin.forall_fin_two]
  exact ⟨rfl, rfl⟩

/-! ## The result, as two halves -/

/-- The result's buffer from its two halves. -/
def gl (A : Fin 2 → FVec F S256x4096 .f32) : (cc0_stg4_0 : Ref sig .tc).ty.Contents (Elt F) := fun (i : S256x8192.Idx) =>
  A ⟨(i 1).val / 4096, by have : (i 1).val < 8192 := (i 1).isLt; omega⟩
    (ix2 (⟨(i 0).val, (i 0).isLt⟩ : Fin 256) (⟨(i 1).val % 4096, Nat.mod_lt _ (by decide)⟩ : Fin 4096))

theorem emb_rO (b : Fin 2) (j : S256x4096.Idx) : (((rO b).emb j 0 : Fin _) : ℕ) = (j 0).val ∧ (((rO b).emb j 1 : Fin _) : ℕ) = b.val * 4096 + (j 1).val := by
  refine ⟨?_, ?_⟩
  · rw [ValueKit.rect_emb_unit_val]; exact Nat.zero_add _
  · rw [ValueKit.rect_emb_unit_val]; rfl

theorem gl_emb (A : Fin 2 → FVec F S256x4096 .f32) (b : Fin 2) (j : S256x4096.Idx) : gl A ((rO b).emb j) = A b j := by
  obtain ⟨e0, e1⟩ := emb_rO b j
  have h1 : (j 1).val < 4096 := (j 1).isLt
  unfold gl
  have hb : (⟨((rO b).emb j 1).val / 4096, by have : ((rO b).emb j 1).val < 8192 := ((rO b).emb j 1).isLt; omega⟩ : Fin 2) = b :=
    Fin.ext (by show ((rO b).emb j 1).val / 4096 = b.val; omega)
  rw [hb]
  congr 1
  funext a; revert a
  rw [Fin.forall_fin_two]
  exact ⟨Fin.ext e0, Fin.ext (by show ((rO b).emb j 1).val % 4096 = (j 1).val; omega)⟩

theorem gl_read (A : Fin 2 → FVec F S256x4096 .f32) (b : Fin 2) : oM.view.readAt (Elt F) (rO b).toLoadRect (gl A) = A b :=
  funext fun j => gl_emb A b j

/-- Every index of the result is in one of the halves. -/
theorem out_cases (i : S256x8192.Idx) : ∃ (b : Fin 2) (j : S256x4096.Idx), (rO b).emb j = i := by
  have h1 : (i 1).val < 8192 := (i 1).isLt
  refine ⟨⟨(i 1).val / 4096, by omega⟩, ix2 (⟨(i 0).val, (i 0).isLt⟩ : Fin 256) (⟨(i 1).val % 4096, Nat.mod_lt _ (by decide)⟩ : Fin 4096), ?_⟩
  obtain ⟨e0, e1⟩ := emb_rO ⟨(i 1).val / 4096, by omega⟩ (ix2 (⟨(i 0).val, (i 0).isLt⟩ : Fin 256) (⟨(i 1).val % 4096, Nat.mod_lt _ (by decide)⟩ : Fin 4096))
  funext a; revert a
  rw [Fin.forall_fin_two]
  exact ⟨Fin.ext e0, Fin.ext (e1.trans (by show (i 1).val / 4096 * 4096 + (i 1).val % 4096 = (i 1).val; omega))⟩

theorem gl_split (f : (cc0_stg4_0 : Ref sig .tc).ty.Contents (Elt F)) : gl (fun b => oM.view.readAt (Elt F) (rO b).toLoadRect f) = f := by
  funext i
  obtain ⟨b, j, rfl⟩ := out_cases i
  exact gl_emb _ b j

theorem gl_write (A : Fin 2 → FVec F S256x4096 .f32) (b : Fin 2) (v : FVec F S256x4096 .f32) :
    (oM.access (rO b) : View sig .tc _ _ _).write (Elt F) (gl A) v Finset.univ = gl (Function.update A b v) := by
  funext i
  obtain ⟨b', j, rfl⟩ := out_cases i
  rw [gl_emb]
  by_cases h : b' = b
  · subst h
    rw [Function.update_self]
    exact View.write_emb_of_mem (v := (oM.access (rO b') : View sig .tc _ _ _)) (gl A) v (Finset.mem_univ j)
  · rw [Function.update_of_ne h]
    refine (View.write_of_not_mem _ _ _ fun hm => h ?_).trans (gl_emb A b' j)
    obtain ⟨j', -, hj⟩ := Finset.mem_map.mp hm
    have e := congrArg (fun i : S256x8192.Idx => (i 1).val) hj
    have e1 := (emb_rO b j').2
    have e2 := (emb_rO b' j).2
    have h1 : (j 1).val < 4096 := (j 1).isLt
    have h2 : (j' 1).val < 4096 := (j' 1).isLt
    have e' : ((rO b).emb j' 1).val = ((rO b').emb j 1).val := e
    exact Fin.ext (by omega)

end Cert.RingMM

end
-- ==== Proof.Moves.lean ====
/-
  The steps of the body as they act on the families of states.
-/
module

public import proofs.«01_k».proof.Proof.Conts

@[expose] public section

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open scoped Classical

variable {F : FTy → Type} [FloatOps F]

local notation "𝕄" => MT nD τ sig Unit (Elt F) ℕ UU ℕ

variable (X : Dev nD → CX F) (Wt : Dev nD → CW F) (K : CI → ℕ) (c : Dev nD)

theorem halves : (fullShare : PosShare TreeShare) ∈ PCS.op fullShare.left fullShare.right := Part.eq_some_iff.mp (PosShare.left_op_right fullShare)

/-! ## Transfers -/

/-- Starting a hop of a quarter. -/
theorem sendW_step (q : Fin 4) (h : Fin 15) {p p' : Tr → Prop} [DecidablePred p] [DecidablePred p'] (hp : ∀ t, p t ↔ p' t ∨ t = .inr (q, h)) (hx : ¬ p' (.inr (q, h))) :
    T X Wt K c iprop(pieceW c (srcSlot q h) q fullShare.left (wgF Wt c) ∗ outs c p ∗ OW c (oweT c p)) (stSendW c q h) iprop(outs c p' ∗ OW c (oweT c p')) := by
  obtain ⟨R, e1, e2⟩ := fam_step (fun t => (unsent c t : sProp 𝕄)) (fun t => sent c t) (.inr (q, h)) hp hx
  unfold outs
  rw [e1, e2]
  refine T.conseq ?_ (T.frame R (send_step X Wt K c (.inr (q, h)) (wgP (srcSlot q h) q) (wgP (dstSlot q h) q) (ringDev c q)
    (ringDev_eq c q) fullShare.left (wgF Wt c) rfl rfl (Entails.refl _) (land_w X Wt c q h) (oweT_peel c (.inr (q, h)) hp hx))) ?_
  · iintro ⟨H1, ⟨H2, H3⟩, H4⟩
    isplitr [H3]
    · isplitl [H1]; · unfold lent; iexact H1
      isplitl [H2]; · iexact H2
      iexact H4
    iexact H3
  · iintro ⟨⟨H1, H2⟩, H3⟩
    isplitr [H2]
    · isplitl [H1]; · iexact H1
      iexact H3
    iexact H2

/-- Sending the rows due `k + 1` places on. -/
theorem sendX_step (k : Fin 15) {p p' : Tr → Prop} [DecidablePred p] [DecidablePred p'] (hp : ∀ t, p t ↔ p' t ∨ t = .inl k) (hx : ¬ p' (.inl k)) :
    T X Wt K c iprop(pieceR c k fullShare.right (X c) ∗ outs c p ∗ OW c (oweT c p)) (stSendX c k) iprop(outs c p' ∗ OW c (oweT c p')) := by
  obtain ⟨R, e1, e2⟩ := fam_step (fun t => (unsent c t : sProp 𝕄)) (fun t => sent c t) (.inl k) hp hx
  unfold outs
  rw [e1, e2]
  refine T.conseq ?_ (T.frame R (send_step X Wt K c (.inl k) (xP c k) (xgP (sl k)) (aftDev c k)
    (aftDev_eq c k) fullShare.right (X c) rfl rfl (Entails.refl _) (land_x X Wt c k) (oweT_peel c (.inl k) hp hx))) ?_
  · iintro ⟨H1, ⟨H2, H3⟩, H4⟩
    isplitr [H3]
    · isplitl [H1]; · unfold lent; iexact H1
      isplitl [H2]; · iexact H2
      iexact H4
    iexact H3
  · iintro ⟨⟨H1, H2⟩, H3⟩
    isplitr [H2]
    · isplitl [H1]; · iexact H1
      iexact H3
    iexact H2

/-- A quarter's arrival: the half to pass on, the half kept. -/
theorem recvW_step (q : Fin 4) (h : Fin 15) {p p' po : Tr → Prop} [DecidablePred po] (hp : ∀ t, p t ↔ p' t ∨ t = .inr (q, h)) (hx : ¬ p' (.inr (q, h)))
    (hw : ∀ t, po t → 3 + h.val < lvT t) :
    T X Wt K c iprop(ins X Wt c p ∗ OW c (oweT c po)) (stRecvW q h)
      iprop(pieceW c (dstSlot q h) q fullShare.left (wgF Wt c) ∗ ins X Wt c p' ∗ OW c (oweT c po)) := by
  obtain ⟨R, e1, e2⟩ := fam_step (fun t => (awaited c t : sProp 𝕄)) (fun t => kept X Wt c t) (.inr (q, h)) hp hx
  unfold ins
  rw [e1, e2]
  refine T.conseq ?_ (T.frame R (wait_step X Wt K c true (.inr (q, h)) (wgP (srcSlot q h) q) (wgP (dstSlot q h) q) rfl (oweT c po)
    (mayWait_of c _ fun t ht => lt_of_eq_of_lt (lv_recv c (.inr (q, h)) ()) (hw t ht)) _ (rest_recv X Wt c (.inr (q, h))))) ?_
  · unfold awaited
    iintro ⟨⟨H1, H2⟩, H3⟩
    isplitr [H2]
    · isplitl [H1]; · iexact H1
      iexact H3
    iexact H2
  · have hs : landed X Wt c (.inr (q, h)) ⊢ iprop(pieceW c (dstSlot q h) q fullShare.left (wgF Wt c) ∗ pieceW c (dstSlot q h) q fullShare.right (wgF Wt c)) :=
      (pointsTo_share halves).1
    unfold kept
    iintro ⟨⟨⟨H1, H2⟩, H3⟩, H4⟩
    ihave H := hs $$ H2
    icases H with ⟨H5, H6⟩
    isplitl [H5]; · iexact H5
    isplitr [H3]
    · isplitr [H4]
      · isplitl [H1]; · iexact H1
        iexact H6
      iexact H4
    iexact H3

/-- The arrival of the rows from `k + 1` places back. -/
theorem recvX_step (k : Fin 15) {p p' po : Tr → Prop} [DecidablePred po] (hp : ∀ t, p t ↔ p' t ∨ t = .inl k) (hx : ¬ p' (.inl k))
    (hw : ∀ t, po t → 2 < lvT t) :
    T X Wt K c iprop(ins X Wt c p ∗ OW c (oweT c po)) (stRecvX c k) iprop(ins X Wt c p' ∗ OW c (oweT c po)) := by
  obtain ⟨R, e1, e2⟩ := fam_step (fun t => (awaited c t : sProp 𝕄)) (fun t => kept X Wt c t) (.inl k) hp hx
  unfold ins
  rw [e1, e2]
  refine T.conseq ?_ (T.frame R (wait_step X Wt K c true (.inl k) (xP c k) (xgP (sl k)) rfl (oweT c po)
    (mayWait_of c _ fun t ht => lt_of_eq_of_lt (lv_recv c (.inl k) ()) (hw t ht)) _ (rest_recv X Wt c (.inl k)))) ?_
  · unfold awaited
    iintro ⟨⟨H1, H2⟩, H3⟩
    isplitr [H2]
    · isplitl [H1]; · iexact H1
      iexact H3
    iexact H2
  · unfold kept landed
    iintro ⟨⟨H1, H2⟩, H3⟩
    isplitr [H2]
    · isplitl [H1]; · iexact H1
      iexact H3
    iexact H2

theorem mayWait_zero (sm : SemLoc sig) : (levAts L lv : sProp 𝕄) ⊢ MayWait (c : Thread nD τ) sm () 0 := by
  rw [MayWait_zero]; iintro -; iempintro

/-- A sender's wait, nothing owed: its share of the source back. -/
theorem drain_step {sp sp' : CoreSpace} {s : Shape} (t : Tr) (src : Memref sig .tc sp s .fp8e5m2) (dst : Memref sig .tc sp' s .fp8e5m2)
    {hsrc : src.view.WordExact} {hdst : dst.view.WordExact} (hN : dst.view.dmaCredit = nOf t)
    {p p' : Tr → Prop} (hp : ∀ i, p i ↔ p' i ∨ i = t) (hx : ¬ p' t) :
    T X Wt K c iprop(drs X Wt c p ∗ OW c 0) (Prog.lift (.waitDma2 (semOf false t) src dst hsrc hdst)) iprop(drs X Wt c p' ∗ OW c 0) := by
  obtain ⟨R, e1, e2⟩ := fam_step (fun t => (sent c t : sProp 𝕄)) (fun t => drained X Wt c t) t hp hx
  unfold drs
  rw [e1, e2]
  refine T.conseq ?_ (T.frame R (wait_step X Wt K c false t src dst hN 0 (mayWait_zero c _) _ (rest_send X Wt c t))) ?_
  · unfold sent
    iintro ⟨⟨H1, H2⟩, H3⟩
    isplitr [H2]
    · isplitl [H1]; · iexact H1
      iexact H3
    iexact H2
  · unfold drained
    iintro ⟨⟨H1, H2⟩, H3⟩
    isplitr [H2]
    · isplitl [H1]; · iexact H1
      iexact H3
    iexact H2

theorem sentW_step (q : Fin 4) (h : Fin 15) {p p' : Tr → Prop} (hp : ∀ i, p i ↔ p' i ∨ i = .inr (q, h)) (hx : ¬ p' (.inr (q, h))) :
    T X Wt K c iprop(drs X Wt c p ∗ OW c 0) (stSentW q h) iprop(drs X Wt c p' ∗ OW c 0) :=
  drain_step X Wt K c (.inr (q, h)) (wgP (dstSlot q h) q) (wgP (srcSlot q h) q) rfl hp hx
theorem sentX_step (k : Fin 15) {p p' : Tr → Prop} (hp : ∀ i, p i ↔ p' i ∨ i = .inl k) (hx : ¬ p' (.inl k)) :
    T X Wt K c iprop(drs X Wt c p ∗ OW c 0) (stSentX c k) iprop(drs X Wt c p' ∗ OW c 0) :=
  drain_step X Wt K c (.inl k) (xgP (sl k)) (xP c k) rfl hp hx

/-! ## The barrier -/

/-- The right to send signal `j`, and what it hands over. -/
def unsig (c : Dev nD) (j : Fin 15) : sProp 𝕄 := iprop(dutyTok ER (barCell (nb c j)) 0 j ∗ barPay (nb c j) j)
/-- The signals from the `n`-th on. -/
def sigs (c : Dev nD) (n : ℕ) : sProp 𝕄 := fam (unsig c) (fun _ => iprop(emp)) fun j : Fin 15 => n ≤ j.val

theorem sig_step (j : Fin 15) (O : CellTallies nD τ sig Unit) :
    T X Wt K c iprop(sigs c j.val ∗ OW c (O + oweB c j.val)) (stSig c j) iprop(sigs c (j.val + 1) ∗ OW c (O + oweB c (j.val + 1))) := by
  obtain ⟨R, e1, e2⟩ := fam_step (fun j : Fin 15 => (unsig c j : sProp 𝕄)) (fun _ => iprop(emp)) (p := fun i => j.val ≤ i.val) (p' := fun i => j.val + 1 ≤ i.val) j
    (fun i => by rw [Fin.ext_iff]; omega) (by omega)
  unfold sigs
  rw [e1, e2]
  unfold T OW stSig semSignalWord unsig
  rw [sigDev_eq]
  iintro ⟨#HR, ⟨⟨Ht, Hp⟩, Hrest⟩, ⟨%W, HO⟩⟩
  iapply (Rounds.wp_signal 𝒱₀ ER (ringRd X Wt) (c : Thread nD τ) none (dst := (nb c j : Thread nD τ)) (κ := K (nb c j, none))
      (d := j) (by rw [duties_bar]; exact Finset.mem_univ _) ((amount_bar X Wt (nb c j) j).trans (by decide)) () (O + oweB c (j.val + 1))
      ((congrArg (O + ·) (oweB_peel c j)).trans (add_assoc _ _ _).symm)) $$ [HO Ht Hp]
  · isplitr; · iapply (recs_inv X Wt K (nb c j, none)); iexact HR
    isplitl [HO]; · iexact HO
    isplitl [Ht]; · iexact Ht
    isplitl [Hp]; · rw [payload_bar]; iexact Hp
    iapply (recs_reached X Wt K (nb c j, none)); iexact HR
  iintro HO
  rw [wp_ret]; imodintro
  isplitl [Hrest]
  · isplitr; · iempintro
    iexact Hrest
  iexists W; iexact HO

set_option maxRecDepth 8000 in
/-- The barrier's wait: every transfer's spot, the barrier's counter at zero. -/
theorem bar_step {p : Tr → Prop} [DecidablePred p] :
    T X Wt K c iprop(atPos ER (barCell c) 0 ∅ 0 ∗ cred (tallyAt (barCell c) () 15) ∗ OW c (oweT c p)) stBar
      iprop(semVal (barCell c) 0 ∗ (bigSep Finset.univ fun t : Tr => (spot (tgt c t) t : sProp 𝕄)) ∗ OW c (oweT c p)) := by
  unfold T OW stBar semWaitWord
  iintro ⟨#HR, Hpos, Hc, ⟨%W, HO⟩⟩
  iapply (Rounds.wp_wait_rest_token 𝒱₀ ER (ringRd X Wt) (c : Thread nD τ) none (κ := K (c, none))
      (wpE_semWait_eq 𝒱₀ (c : Thread nD τ) none Set.univ) (Set.mem_univ _) () (O := oweT c p) (W := W) (R := 0) (m := 0) (T := ∅)
      (by rw [expect_bar]; decide)) $$ [Hc HO Hpos]
  · isplitr; · iapply (recs_inv X Wt K (c, none)); iexact HR
    isplitl [Hc]; · iexact Hc
    isplitl [HO]; · iexact HO
    isplitr
    · have hm : recs X Wt K ⊢ MayWait (c : Thread nD τ) (.reg barS) () (oweT c p) := (recs_lev X Wt K).trans (mayWait_of c (.reg barS) fun t _ => by
        cases t
        · show 1 < 2; omega
        · show 1 < 3 + _; omega)
      ihave Hm := hm $$ HR; iexact Hm
    iexact Hpos
  iintro ⟨HO, Hpos, -, Hpay⟩
  ihave Hp := (Entails.of_eq (rest_bar X Wt c)) $$ Hpay
  imod (Rounds.cell_close ER (ringRd X Wt) (Set.mem_univ (K (c, none))) (fun h => h) (R := 0 + 1) (duties_later X Wt (barCell c))) $$ [Hpos] with Hz
  · isplitr; · iapply (recs_inv X Wt K (c, none)); iexact HR
    iexact Hpos
  rw [wp_ret]; imodintro
  isplitl [Hz]; · iexact Hz
  isplitl [Hp]; · iexact Hp
  iexists _; iexact HO

end Cert.RingMM

end
-- ==== Proof.Work.lean ====
/-
  The steps that load and store: staging a quarter, the own product, adding a slot's product to half of the result.
-/
module

public import proofs.«01_k».proof.Proof.Moves

@[expose] public section

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open scoped Classical

variable {F : FTy → Type} [FloatOps F]

local notation "𝕄" => MT nD τ sig Unit (Elt F) ℕ UU ℕ

variable (X : Dev nD → CX F) (Wt : Dev nD → CW F) (K : CI → ℕ) (c : Dev nD)

/-- The weights staged on device `c`. -/
abbrev wPts (c : Dev nD) : sProp 𝕄 := ((c : Thread nD τ).loc cc0_stg1_0) ↦{fullShare} Wt c
/-- Half a share of the rows staged on device `c`. -/
abbrev xPts (c : Dev nD) : sProp 𝕄 := ((c : Thread nD τ).loc cc0_stg0_0) ↦{fullShare.left} X c
/-- The result's buffer. -/
abbrev oPts (c : Dev nD) (f : (cc0_stg4_0 : Ref sig .tc).ty.Contents (Elt F)) : sProp 𝕄 := ((c : Thread nD τ).loc cc0_stg4_0) ↦{fullShare} f

/-- Slot 0: a quarter not staged yet, or staged, half of it kept. -/
def slot0 (f : (wgB : Ref sig .tc).ty.Contents (Elt F)) (p : Fin 4 → Prop) : sProp 𝕄 :=
  fam (fun q => pieceW c 0 q fullShare f) (fun q => pieceW c 0 q fullShare.right (wgF Wt c)) p

/-! ## What the accesses touch -/

theorem sub_wg (s : Fin 16) (q : Fin 4) : (wgM.view.setOn (rWg s q).toLoadRect.set : Finset IW) ⊆ (wgP s q).view.set := by
  have h : (wgP s q).view.set = (rWg s q).set := (View.set_reshape _ _).trans (View.set_slice_whole _ _)
  intro i hi
  obtain ⟨j, hj, rfl⟩ := Finset.mem_map.mp hi
  rw [h]; exact hj
theorem sub_wg' (s : Fin 16) (q : Fin 4) : ((wgM.access (rWg s q) : View sig .tc _ _ _).setOn Finset.univ : Finset IW) ⊆ (wgP s q).view.set := by
  have h : (wgP s q).view.set = (wgM.access (rWg s q) : View sig .tc _ _ _).set := View.set_reshape _ _
  rw [h]; exact Finset.Subset.refl _
theorem sub_xg (s : Fin 16) : (xgM.view.setOn (rXg s).toLoadRect.set : Finset IX) ⊆ (xgP s).view.set := by
  have h : (xgP s).view.set = (rXg s).set := (View.set_reshape _ _).trans (View.set_slice_whole _ _)
  intro i hi
  obtain ⟨j, hj, rfl⟩ := Finset.mem_map.mp hi
  rw [h]; exact hj
theorem sub_wgh (s : Fin 16) (b : Fin 2) (q q' : Fin 4) (hq : q.val = 2 * b.val) (hq' : q'.val = 2 * b.val + 1) :
    (wgM.view.setOn (rWgh s b).toLoadRect.set : Finset IW) ⊆ (wgP s q).view.set ∪ (wgP s q').view.set := by
  intro i hi
  obtain ⟨j, hj, rfl⟩ := Finset.mem_map.mp hi
  have hj' : j ∈ (rWgh s b).set := hj
  rw [Rect.mem_set_unit, Fin.forall_fin_succ, Fin.forall_fin_succ, Fin.forall_fin_succ] at hj'
  obtain ⟨⟨a1, a2⟩, -, ⟨a3, a4⟩, -⟩ := hj'
  have b1 : s.val ≤ (j 0).val := a1
  have b2 : (j 0).val < s.val + 1 := a2
  have b3 : b.val * 4096 ≤ (j 2).val := a3
  have b4 : (j 2).val < b.val * 4096 + 4096 := a4
  rw [Finset.mem_union]
  by_cases h : (j 2).val / 2048 = 2 * b.val
  · exact Or.inl ((mem_wgP s q j).mpr ⟨by omega, by omega⟩)
  · exact Or.inr ((mem_wgP s q' j).mpr ⟨by omega, by omega⟩)
theorem disj_wgP (s s' : Fin 16) (q q' : Fin 4) (h : (s, q) ≠ (s', q')) : Disjoint (wgP s q).view.set (wgP s' q').view.set := by
  refine Finset.disjoint_left.mpr fun i h1 h2 => h ?_
  have e1 := (mem_wgP s q i).mp h1
  have e2 := (mem_wgP s' q' i).mp h2
  exact Prod.ext (Fin.ext (e1.1.symm.trans e2.1)) (Fin.ext (e1.2.symm.trans e2.2))

theorem pair_w (s : Fin 16) (q q' : Fin 4) (h : q ≠ q') (sh : PosShare TreeShare) (f : (wgB : Ref sig .tc).ty.Contents (Elt F)) :
    (wgM.view.loc (c : Thread nD τ) ↦[(wgP s q).view.set ∪ (wgP s q').view.set]{sh} f : sProp 𝕄) ⊣⊢ iprop(pieceW c s q sh f ∗ pieceW c s q' sh f) :=
  pointsTo_union (disj_wgP s s q q' fun e => h (congrArg Prod.snd e))

/-! ## Staging -/

theorem staged_piece (q : Fin 4) (f : (wgB : Ref sig .tc).ty.Contents (Elt F)) :
    (wgM.view.loc (c : Thread nD τ) ↦[(wgP 0 q).view.set]{fullShare} ((wgM.access (rWg 0 q) : View sig .tc _ _ _).write (Elt F) f
      (k0_pay2 (wM.view.readAt (Elt F) (rW q).toLoadRect (Wt c))) Finset.univ) : sProp 𝕄) = pieceW c 0 q fullShare (wgF Wt c) :=
  pointsTo_congr fun i hi => stage_w Wt c q f i hi

set_option maxHeartbeats 400000 in
theorem stage_step (q : Fin 4) (f : (wgB : Ref sig .tc).ty.Contents (Elt F)) {po po' : Tr → Prop} [DecidablePred po] [DecidablePred po'] {pq pq' : Fin 4 → Prop}
    (hp : ∀ t, po t ↔ po' t ∨ t = .inr (q, 0)) (hx : ¬ po' (.inr (q, 0))) (hp' : ∀ i, pq i ↔ pq' i ∨ i = q) (hx' : ¬ pq' q) :
    T X Wt K c iprop(wPts Wt c ∗ slot0 Wt c f pq ∗ outs c po ∗ OW c (oweT c po)) (stStage c q)
      iprop(wPts Wt c ∗ slot0 Wt c f pq' ∗ outs c po' ∗ OW c (oweT c po')) := by
  obtain ⟨R, e1, e2⟩ := fam_step (fun q => (pieceW c 0 q fullShare f : sProp 𝕄)) (fun q => pieceW c 0 q fullShare.right (wgF Wt c)) q hp' hx'
  unfold slot0
  rw [e1, e2]
  have hs := T.conseq (Entails.refl _) (T.frame iprop(wPts Wt c ∗ pieceW c 0 q fullShare.right (wgF Wt c) ∗ R) (sendW_step X Wt K c q 0 hp hx))
    (Q' := iprop(wPts Wt c ∗ (pieceW c 0 q fullShare.right (wgF Wt c) ∗ R) ∗ outs c po' ∗ OW c (oweT c po'))) (by
      iintro ⟨⟨H1, H2⟩, H3, H4, H5⟩
      isplitl [H3]; · iexact H3
      isplitl [H4 H5]
      · isplitl [H4]; · iexact H4
        iexact H5
      isplitl [H1]; · iexact H1
      iexact H2)
  unfold T at hs ⊢
  unfold stStage
  simp only [Prog.lift, Prog.bind_op, Prog.bind_ret]
  iintro ⟨#HR, Hw, ⟨Hp, Hr⟩, Ho, HO⟩
  iapply (wp_load 𝒱₀ (c : Thread nD τ) none Set.univ (m := wM) (Finset.subset_univ _)) $$ Hw; iintro Hw
  iapply (wp_load 𝒱₀ (c : Thread nD τ) none Set.univ (m := wgM) (sub_wg 0 q)) $$ Hp; iintro Hp
  iapply (wp_store 𝒱₀ (c : Thread nD τ) none Set.univ (m := wgM) (r := rWg 0 q) (Mk := Finset.univ) (sub_wg' 0 q)) $$ Hp; iintro Hp
  ihave Hp := (Entails.of_eq (staged_piece Wt c q f)) $$ Hp
  ihave Hp := (pointsTo_share halves).1 $$ Hp
  icases Hp with ⟨Hl, Hk⟩
  iapply hs
  isplitr; · iexact HR
  isplitl [Hl Ho HO]
  · isplitl [Hl]; · rw [srcSlot_zero]; iexact Hl
    isplitl [Ho]; · iexact Ho
    iexact HO
  isplitl [Hw]; · iexact Hw
  isplitl [Hk]; · iexact Hk
  iexact Hr

/-! ## Products -/

theorem zero2 : (![0, 0] : Fin 2 → ℕ) = fun _ => 0 := funext fun a => by fin_cases a <;> rfl

/-- The product of the own rows and weights. -/
def ownV (c : Dev nD) : (cc0_stg4_0 : Ref sig .tc).ty.Contents (Elt F) := k0_pay6 (xM.view.readAt (Elt F) (rX0 c).toLoadRect (X c)) (Wt c)
/-- Its half `b`. -/
def accZ (c : Dev nD) (b : Fin 2) : FVec F S256x4096 .f32 := oM.view.readAt (Elt F) (rO b).toLoadRect (ownV X Wt c)
/-- A half plus the product of slot `s`. -/
def addV (c : Dev nD) (s : Fin 16) (b : Fin 2) (a : FVec F S256x4096 .f32) : FVec F S256x4096 .f32 :=
  k0_pay7 a (xgM.view.readAt (Elt F) (rXg s).toLoadRect (xgF X c)) (wgM.view.readAt (Elt F) (rWgh s b).toLoadRect (wgF Wt c))

theorem own_step : T X Wt K c iprop(xPts X c ∗ wPts Wt c ∗ ∃ f, oPts c f) (stOwn c) iprop(xPts X c ∗ wPts Wt c ∗ oPts c (gl (accZ X Wt c))) := by
  unfold T stOwn
  simp only [Prog.lift, Prog.bind_op, Prog.bind_ret]
  iintro ⟨-, Hx, Hw, %f, Ho⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := rAll) (Mk := Finset.univ) (Finset.subset_univ _)) $$ Ho; iintro Ho
  rw [wp_ret]; imodintro
  isplitl [Hx]; · iexact Hx
  isplitl [Hw]; · iexact Hw
  have e : (oM.access rAll : View sig .tc _ _ _).write (Elt F) f (k0_pay6 (xM.view.readAt (Elt F) (rX0 c).toLoadRect (X c)) (wM.view.readAt (Elt F) rAll.toLoadRect (Wt c))) Finset.univ
      = gl (accZ X Wt c) := by
    refine (Memref.write_access_unit_zero_univ (Elt F) cc0_stg4_0 zero2 _ f _).trans ?_
    rw [show wM.view.readAt (Elt F) rAll.toLoadRect (Wt c) = Wt c from Memref.readAt_unit_zero (Elt F) cc0_stg1_0 zero2 _ (Wt c)]
    exact (gl_split (ownV X Wt c)).symm
  ihave Ho := (Entails.of_eq (congrArg (fun f => (oPts c f : sProp 𝕄)) e)) $$ Ho
  iexact Ho

/-- Three members of a family, and the rest. -/
theorem fam_three {I : Type} [Fintype I] (Φ : I → sProp 𝕄) {x y z : I} (hxy : x ≠ y) (hxz : x ≠ z) (hyz : y ≠ z) :
    ∃ R : sProp 𝕄, bigSep Finset.univ Φ = iprop(Φ x ∗ Φ y ∗ Φ z ∗ R) := by
  refine ⟨bigSep (((Finset.univ.erase x).erase y).erase z) Φ, ?_⟩
  rw [bigSep_univ_at Φ x, bigSep_erase (s := Finset.univ.erase x) (i := y) (Finset.mem_erase.mpr ⟨hxy.symm, Finset.mem_univ _⟩),
    bigSep_erase (s := (Finset.univ.erase x).erase y) (i := z) (Finset.mem_erase.mpr ⟨hyz.symm, Finset.mem_erase.mpr ⟨hxz.symm, Finset.mem_univ _⟩⟩)]
  rfl

/-- Adding to a half: the slot and both its quarters there must have arrived. -/
theorem add_step (g : FVec F S256x4096 .f32 → FVec F S256x4096 .f32) (s : Fin 16) (b : Fin 2) (k h : Fin 15) (q q' : Fin 4)
    (hk : sl k = s) (hq : q.val = 2 * b.val) (hq' : q'.val = 2 * b.val + 1) (hd : dstSlot q h = s) (hd' : dstSlot q' h = s)
    {p : Tr → Prop} (h1 : ¬ p (.inl k)) (h2 : ¬ p (.inr (q, h))) (h3 : ¬ p (.inr (q', h))) (A : Fin 2 → FVec F S256x4096 .f32) :
    T X Wt K c iprop(oPts c (gl A) ∗ ins X Wt c p) (stAdd g s b) iprop(oPts c (gl (Function.update A b (g (addV X Wt c s b (A b))))) ∗ ins X Wt c p) := by
  have hne : q ≠ q' := fun e => by rw [e] at hq; omega
  obtain ⟨R, e⟩ := fam_three (fun t => if p t then (awaited c t : sProp 𝕄) else kept X Wt c t) (x := .inl k) (y := .inr (q, h)) (z := .inr (q', h))
    (fun h => by cases h) (fun h => by cases h) (fun h => hne (by cases h; rfl))
  rw [if_neg h1, if_neg h2, if_neg h3] at e
  unfold ins fam
  rw [e]
  unfold kept
  dsimp only
  rw [hk, hd, hd']
  unfold T stAdd
  simp only [Prog.lift, Prog.bind_op, Prog.bind_ret]
  iintro ⟨-, Ho, ⟨S1, Hx⟩, ⟨S2, Hw⟩, ⟨S3, Hw'⟩, Hr⟩
  iapply (wp_load 𝒱₀ (c : Thread nD τ) none Set.univ (m := oM) (Finset.subset_univ _)) $$ Ho; iintro Ho
  iapply (wp_load 𝒱₀ (c : Thread nD τ) none Set.univ (m := xgM) (sub_xg s)) $$ Hx; iintro Hx
  ihave Hu := (pair_w c s q q' hne fullShare.right (wgF Wt c)).2 $$ [Hw Hw']
  · isplitl [Hw]; · iexact Hw
    iexact Hw'
  iapply (wp_load 𝒱₀ (c : Thread nD τ) none Set.univ (m := wgM) (sub_wgh s b q q' hq hq')) $$ Hu; iintro Hu
  ihave Hu := (pair_w c s q q' hne fullShare.right (wgF Wt c)).1 $$ Hu
  icases Hu with ⟨Hw, Hw'⟩
  iapply (wp_load 𝒱₀ (c : Thread nD τ) none Set.univ (m := oM) (Finset.subset_univ _)) $$ Ho; iintro Ho
  iapply (wp_store 𝒱₀ (c : Thread nD τ) none Set.univ (m := oM) (r := rO b) (Mk := Finset.univ) (Finset.subset_univ _)) $$ Ho; iintro Ho
  rw [wp_ret]; imodintro
  isplitl [Ho]
  · have e : (oM.access (rO b) : View sig .tc _ _ _).write (Elt F) (gl A) (g (k0_pay7 (oM.view.readAt (Elt F) (rO b).toLoadRect (gl A)) (xgM.view.readAt (Elt F) (rXg s).toLoadRect (xgF X c))
        (wgM.view.readAt (Elt F) (rWgh s b).toLoadRect (wgF Wt c)))) Finset.univ = gl (Function.update A b (g (addV X Wt c s b (A b)))) := by
      rw [gl_write, gl_read]; rfl
    ihave Ho := (Entails.of_eq (congrArg (fun f => (oPts c f : sProp 𝕄)) e)) $$ Ho
    iexact Ho
  isplitl [S1 Hx]
  · isplitl [S1]; · iexact S1
    iexact Hx
  isplitl [S2 Hw]
  · isplitl [S2]; · iexact S2
    iexact Hw
  isplitl [S3 Hw']
  · isplitl [S3]; · iexact S3
    iexact Hw'
  iexact Hr

end Cert.RingMM

end
-- ==== Proof.Loops.lean ====
/-
  The body, stage by stage: every loop along a family of states numbered by how far it has come.
-/
module

public import proofs.«01_k».proof.Proof.Work

@[expose] public section

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (chain)
open scoped Classical

variable {F : FTy → Type} [FloatOps F]

local notation "𝕄" => MT nD τ sig Unit (Elt F) ℕ UU ℕ

/-! ## Counters -/

/-- The order the four quarters are taken in; it undoes itself. -/
def o4 : Fin 4 → Fin 4 := ![0, 2, 1, 3]
theorem o4_o4 (q : Fin 4) : o4 (o4 q) = q := by revert q; decide
/-- How many hops of quarter `q` are done when `h` rounds are, and `n` quarters of the next. -/
def cnt (h n : ℕ) : Fin 4 → ℕ := fun q => h + if (o4 q).val < n then 1 else 0
theorem cnt_zero (h : ℕ) (q : Fin 4) : cnt h 0 q = h := rfl
theorem cnt_four (h : ℕ) : cnt h 4 = cnt (h + 1) 0 := funext fun q => by
  have : (o4 q).val < 4 := (o4 q).isLt
  unfold cnt; rw [if_pos this, if_neg (Nat.not_lt_zero _)]
theorem cnt_at (h : ℕ) (i : Fin 4) : cnt h i.val (o4 i) = h := by unfold cnt; rw [o4_o4, if_neg (Nat.lt_irrefl _)]; rfl
theorem cnt_at' (h : ℕ) (i : Fin 4) : cnt h (i.val + 1) (o4 i) = h + 1 := by unfold cnt; rw [o4_o4, if_pos (Nat.lt_succ_self _)]
theorem cnt_ne (h : ℕ) (i q : Fin 4) (hq : q ≠ o4 i) : cnt h (i.val + 1) q = cnt h i.val q := by
  have hne : (o4 q).val ≠ i.val := fun e => hq (by rw [← Fin.ext e, o4_o4])
  unfold cnt
  by_cases hl : (o4 q).val < i.val
  · rw [if_pos hl, if_pos (by omega)]
  · rw [if_neg hl, if_neg (by omega)]
theorem cnt_le (h n : ℕ) (q : Fin 4) : h ≤ cnt h n q := Nat.le_add_right _ _

/-- Arrivals still to come: rows, `p` of them taken from the front and `r` from the back; hops, `b q` of quarter `q` taken. -/
def wait (p r : ℕ) (b : Fin 4 → ℕ) : Tr → Prop
  | .inl k => p ≤ k.val ∧ r + k.val ≤ 14
  | .inr x => b x.1 ≤ x.2.val

theorem step_inr {b b' : Fin 4 → ℕ} {q : Fin 4} {h : Fin 15} (h0 : b q = h.val) (h1 : b' q = h.val + 1) (h2 : ∀ q', q' ≠ q → b' q' = b q') (x : Fin 4 × Fin 15) :
    b x.1 ≤ x.2.val ↔ b' x.1 ≤ x.2.val ∨ (Sum.inr x : Tr) = .inr (q, h) := by
  obtain ⟨q', h'⟩ := x
  by_cases e : q' = q
  · subst e
    have : ((Sum.inr (q', h') : Tr) = .inr (q', h)) ↔ h'.val = h.val := ⟨fun e => by cases e; rfl, fun e => by rw [Fin.ext e]⟩
    rw [this]; show b q' ≤ h'.val ↔ b' q' ≤ h'.val ∨ _; omega
  · have : ¬ (Sum.inr (q', h') : Tr) = .inr (q, h) := fun e' => e (by cases e'; rfl)
    show b q' ≤ h'.val ↔ b' q' ≤ h'.val ∨ _
    rw [h2 q' e]; exact ⟨Or.inl, fun h => h.resolve_right this⟩

theorem todo_inr {n : ℕ} {b b' : Fin 4 → ℕ} {q : Fin 4} {h : Fin 15} (h0 : b q = h.val) (h1 : b' q = h.val + 1) (h2 : ∀ q', q' ≠ q → b' q' = b q') :
    (∀ t, todo n b t ↔ todo n b' t ∨ t = .inr (q, h)) ∧ ¬ todo n b' (.inr (q, h)) := by
  refine ⟨fun t => ?_, fun h' => ?_⟩
  · rcases t with k | x
    · exact ⟨Or.inl, fun h => h.resolve_right fun e => by cases e⟩
    · exact step_inr h0 h1 h2 x
  · have : b' q ≤ h.val := h'; omega
theorem wait_inr {p r : ℕ} {b b' : Fin 4 → ℕ} {q : Fin 4} {h : Fin 15} (h0 : b q = h.val) (h1 : b' q = h.val + 1) (h2 : ∀ q', q' ≠ q → b' q' = b q') :
    (∀ t, wait p r b t ↔ wait p r b' t ∨ t = .inr (q, h)) ∧ ¬ wait p r b' (.inr (q, h)) := by
  refine ⟨fun t => ?_, fun h' => ?_⟩
  · rcases t with k | x
    · exact ⟨Or.inl, fun h => h.resolve_right fun e => by cases e⟩
    · exact step_inr h0 h1 h2 x
  · have : b' q ≤ h.val := h'; omega
theorem inl_iff (k k' : Fin 15) : ((Sum.inl k' : Tr) = .inl k) ↔ k'.val = k.val := ⟨fun e => by cases e; rfl, fun e => by rw [Fin.ext e]⟩
theorem todo_inl (b : Fin 4 → ℕ) (k : Fin 15) : (∀ t, todo k.val b t ↔ todo (k.val + 1) b t ∨ t = .inl k) ∧ ¬ todo (k.val + 1) b (.inl k) := by
  refine ⟨fun t => ?_, fun h' => ?_⟩
  · rcases t with k' | x
    · rw [inl_iff]; show k.val ≤ k'.val ↔ k.val + 1 ≤ k'.val ∨ _; omega
    · exact ⟨Or.inl, fun h => h.resolve_right fun e => by cases e⟩
  · have : k.val + 1 ≤ k.val := h'; omega
theorem wait_front (r : ℕ) (b : Fin 4 → ℕ) (k : Fin 15) (hr : r + k.val ≤ 14) :
    (∀ t, wait k.val r b t ↔ wait (k.val + 1) r b t ∨ t = .inl k) ∧ ¬ wait (k.val + 1) r b (.inl k) := by
  refine ⟨fun t => ?_, fun h' => ?_⟩
  · rcases t with k' | x
    · rw [inl_iff]; show k.val ≤ k'.val ∧ r + k'.val ≤ 14 ↔ (k.val + 1 ≤ k'.val ∧ r + k'.val ≤ 14) ∨ _; omega
    · exact ⟨Or.inl, fun h => h.resolve_right fun e => by cases e⟩
  · have := h'.1; omega
theorem wait_back (p r : ℕ) (b : Fin 4 → ℕ) (k : Fin 15) (hk : r + k.val = 14) (hp : p ≤ k.val) :
    (∀ t, wait p r b t ↔ wait p (r + 1) b t ∨ t = .inl k) ∧ ¬ wait p (r + 1) b (.inl k) := by
  refine ⟨fun t => ?_, fun h' => ?_⟩
  · rcases t with k' | x
    · rw [inl_iff]; show p ≤ k'.val ∧ r + k'.val ≤ 14 ↔ (p ≤ k'.val ∧ r + 1 + k'.val ≤ 14) ∨ _; omega
    · exact ⟨Or.inl, fun h => h.resolve_right fun e => by cases e⟩
  · have := h'.2; omega

/-- With all rows sent and at least `m` hops of every quarter started, what is owed lies above level `2 + m`. -/
theorem above {m n : ℕ} {b : Fin 4 → ℕ} (hn : 15 ≤ n) (hb : ∀ q, m ≤ b q) (t : Tr) (h : todo n b t) : 2 + m < lvT t := by
  rcases t with k | x
  · have : n ≤ k.val := h; omega
  · have h' : b x.1 ≤ x.2.val := h
    have := hb x.1
    show 2 + m < 3 + x.2.val; omega

/-! ## Lists of steps -/

theorem all15_get : ∀ i : Fin 15, all15[i.val]'i.isLt = i := by decide
theorem all14_get : ∀ i : Fin 14, all14[i.val]'i.isLt = i := by decide
theorem four_get : ∀ i : Fin 4, ([0, 2, 1, 3] : List (Fin 4))[i.val]'i.isLt = o4 i := by decide

section Lists
variable {X : Dev nD → CX F} {Wt : Dev nD → CW F} {K : CI → ℕ} {c : Dev nD}

theorem T.chain15 (f : Fin 15 → PP F) (S : ℕ → sProp 𝕄) (h : ∀ i : Fin 15, T X Wt K c (S i.val) (f i) (S (i.val + 1))) :
    T X Wt K c (S 0) (Pipeline.chain (all15.map f)) (S 15) :=
  T.chain f all15 S fun i hi => by
    have := h ⟨i, hi⟩
    rw [show all15[i] = (⟨i, hi⟩ : Fin 15) from all15_get ⟨i, hi⟩]; exact this
theorem T.chain14 (f : Fin 14 → PP F) (S : ℕ → sProp 𝕄) (h : ∀ i : Fin 14, T X Wt K c (S i.val) (f i) (S (i.val + 1))) :
    T X Wt K c (S 0) (Pipeline.chain (all14.map f)) (S 14) :=
  T.chain f all14 S fun i hi => by
    have := h ⟨i, hi⟩
    rw [show all14[i] = (⟨i, hi⟩ : Fin 14) from all14_get ⟨i, hi⟩]; exact this
theorem T.chain4 (f : Fin 4 → PP F) (S : ℕ → sProp 𝕄) (h : ∀ i : Fin 4, T X Wt K c (S i.val) (f (o4 i)) (S (i.val + 1))) :
    T X Wt K c (S 0) (Pipeline.chain ([0, 2, 1, 3].map f)) (S 4) :=
  T.chain f [0, 2, 1, 3] S fun i hi => by
    have := h ⟨i, hi⟩
    rw [show ([0, 2, 1, 3] : List (Fin 4))[i] = o4 ⟨i, hi⟩ from four_get ⟨i, hi⟩]; exact this

end Lists

variable (X : Dev nD → CX F) (Wt : Dev nD → CW F) (K : CI → ℕ) (c : Dev nD)

/-- The state of the transfers while hops go on: what is started, and with it what is owed. -/
def going (c : Dev nD) (n : ℕ) (b : Fin 4 → ℕ) : sProp 𝕄 := iprop(outs c (todo n b) ∗ OW c (oweT c (todo n b)))

/-! ## Staging, sending the rows, the own product -/

theorem stage_loop (f : (wgB : Ref sig .tc).ty.Contents (Elt F)) :
    T X Wt K c iprop(wPts Wt c ∗ slot0 Wt c f (fun q => 0 ≤ (o4 q).val) ∗ going c 0 (cnt 0 0)) (chain ([0, 2, 1, 3].map (stStage c)))
      iprop(wPts Wt c ∗ slot0 Wt c f (fun q => 4 ≤ (o4 q).val) ∗ going c 0 (cnt 0 4)) :=
  T.chain4 (stStage c) (fun n => iprop(wPts Wt c ∗ slot0 Wt c f (fun q => n ≤ (o4 q).val) ∗ going c 0 (cnt 0 n))) fun i => by
    obtain ⟨h1, h2⟩ := todo_inr (n := 0) (h := 0) (cnt_at 0 i) (cnt_at' 0 i) (cnt_ne 0 i)
    exact stage_step X Wt K c (o4 i) f h1 h2 (fun q => by
      have : q = o4 i ↔ (o4 q).val = i.val := ⟨fun e => by rw [e, o4_o4], fun e => by rw [← Fin.ext e, o4_o4]⟩
      rw [this]; omega) (by rw [o4_o4]; omega)

/-- The shares of the rows to be lent from the `n`-th transfer on. -/
def rowsR (c : Dev nD) (n : ℕ) : sProp 𝕄 := fam (fun k => pieceR c k fullShare.right (X c)) (fun _ => iprop(emp)) fun k : Fin 15 => n ≤ k.val

theorem sendX_loop (b : Fin 4 → ℕ) :
    T X Wt K c iprop(rowsR X c 0 ∗ going c 0 b) (chain (all15.map (stSendX c))) iprop(rowsR X c 15 ∗ going c 15 b) :=
  T.chain15 (stSendX c) (fun n => iprop(rowsR X c n ∗ going c n b)) fun k => by
    obtain ⟨h1, h2⟩ := todo_inl b k
    obtain ⟨R, e1, e2⟩ := fam_step (fun k => (pieceR c k fullShare.right (X c) : sProp 𝕄)) (fun _ => iprop(emp)) (p := fun i => k.val ≤ i.val) (p' := fun i => k.val + 1 ≤ i.val) k
      (fun i => by rw [Fin.ext_iff]; omega) (by omega)
    unfold rowsR going
    rw [e1, e2]
    refine T.conseq ?_ (T.frame R (sendX_step X Wt K c k h1 h2)) ?_
    · iintro ⟨⟨H1, H2⟩, H3, H4⟩
      isplitr [H2]
      · isplitl [H1]; · iexact H1
        isplitl [H3]; · iexact H3
        iexact H4
      iexact H2
    · iintro ⟨⟨H1, H2⟩, H3⟩
      isplitl [H3]
      · isplitr; · iempintro
        iexact H3
      isplitl [H1]; · iexact H1
      iexact H2

/-! ## Hops -/

/-- The slot added to half `b` at hop `n`. -/
def slotAt (b : Fin 2) (h : Fin 15) : Fin 16 := bif b.val.blt 1 then sl h else sl h.rev
/-- The two halves after `n` hops. -/
def acc (c : Dev nD) : ℕ → Fin 2 → FVec F S256x4096 .f32
  | 0 => accZ X Wt c
  | n + 1 => fun b => addV X Wt c (slotAt b (Fin.ofNat 15 n)) b (acc c n b)

theorem acc_succ (h : Fin 15) : acc X Wt c (h.val + 1) =
    Function.update (Function.update (acc X Wt c h.val) 0 (addV X Wt c (sl h) 0 (acc X Wt c h.val 0))) 1
      (addV X Wt c (sl h.rev) 1 (acc X Wt c h.val 1)) := by
  have e : Fin.ofNat 15 h.val = h := Fin.ext (Nat.mod_eq_of_lt h.isLt)
  funext b; revert b
  rw [Fin.forall_fin_two]
  constructor
  · rw [Function.update_of_ne (by decide), Function.update_self]
    show addV X Wt c (slotAt 0 (Fin.ofNat 15 h.val)) 0 (acc X Wt c h.val 0) = _
    rw [e]; rfl
  · rw [Function.update_self]
    show addV X Wt c (slotAt 1 (Fin.ofNat 15 h.val)) 1 (acc X Wt c h.val 1) = _
    rw [e]; rfl

theorem pass_loop (p r : ℕ) (h : Fin 14) :
    T X Wt K c iprop(ins X Wt c (wait p r (cnt h.val 0)) ∗ going c 15 (cnt (h.val + 1) 0)) (chain ([0, 2, 1, 3].map (stPass c h)))
      iprop(ins X Wt c (wait p r (cnt h.val 4)) ∗ going c 15 (cnt (h.val + 1) 4)) :=
  T.chain4 (X := X) (Wt := Wt) (K := K) (c := c) (stPass c h) (fun n => iprop(ins X Wt c (wait p r (cnt h.val n)) ∗ going c 15 (cnt (h.val + 1) n))) fun i => by
    obtain ⟨h1, h2⟩ := todo_inr (n := 15) (h := h.succ) (cnt_at (h.val + 1) i) (cnt_at' (h.val + 1) i) (cnt_ne (h.val + 1) i)
    obtain ⟨w1, w2⟩ := wait_inr (p := p) (r := r) (h := h.castSucc) (cnt_at h.val i) (cnt_at' h.val i) (cnt_ne h.val i)
    unfold going stPass
    refine T.seq (Q := iprop((pieceW c (srcSlot (o4 i) h.succ) (o4 i) fullShare.left (wgF Wt c) ∗ outs c (todo 15 (cnt (h.val + 1) i.val)) ∗ OW c (oweT c (todo 15 (cnt (h.val + 1) i.val))))
        ∗ ins X Wt c (wait p r (cnt h.val (i.val + 1))))) ?_ ?_
    · refine T.conseq ?_ (T.frame (outs c (todo 15 (cnt (h.val + 1) i.val))) (recvW_step X Wt K c (o4 i) h.castSucc (po := todo 15 (cnt (h.val + 1) i.val)) w1 w2 fun t ht => ?_)) ?_
      · iintro ⟨H1, H2, H3⟩
        isplitr [H2]
        · isplitl [H1]; · iexact H1
          iexact H3
        iexact H2
      · have := above (m := h.val + 1) (le_refl 15) (cnt_le (h.val + 1) i.val) t ht
        show 3 + h.val < _; omega
      · rw [srcSlot_succ]
        iintro ⟨⟨H1, H2, H3⟩, H4⟩
        isplitr [H2]
        · isplitl [H1]; · iexact H1
          isplitl [H4]; · iexact H4
          iexact H3
        iexact H2
    · refine T.conseq (Entails.refl _) (T.frame (ins X Wt c (wait p r (cnt h.val (i.val + 1)))) (sendW_step X Wt K c (o4 i) h.succ h1 h2)) ?_
      iintro ⟨⟨H1, H2⟩, H3⟩
      isplitl [H3]; · iexact H3
      isplitl [H1]; · iexact H1
      iexact H2

theorem T.one {P Q : sProp 𝕄} {e : PP F} (h : T X Wt K c P e Q) : T X Wt K c P (Pipeline.chain [e]) Q := T.seq h T.nil

/-- The rows from the front that hop `h` waits for, if any. -/
theorem front (h : Fin 14) (b b' : Fin 4 → ℕ) (hb : ∀ q, 1 ≤ b' q) :
    T X Wt K c iprop(ins X Wt c (wait (min h.val 8) (min h.val 7) b) ∗ going c 15 b') (chain (bif h.val.blt 8 then [stRecvX c h.castSucc] else []))
      iprop(ins X Wt c (wait (min (h.val + 1) 8) (min h.val 7) b) ∗ going c 15 b') := by
  unfold going
  by_cases hh : h.val < 8
  · rw [show h.val.blt 8 = true from Nat.ble_eq.mpr hh]
    obtain ⟨w1, w2⟩ := wait_front (min h.val 7) b h.castSucc (by show min h.val 7 + h.val ≤ 14; omega)
    rw [show min h.val 8 = h.castSucc.val from min_eq_left (by omega), show min (h.val + 1) 8 = h.castSucc.val + 1 from min_eq_left (by omega)]
    refine T.one X Wt K c (T.conseq ?_ (T.frame (outs c (todo 15 b')) (recvX_step X Wt K c h.castSucc (po := todo 15 b') w1 w2 fun t ht => ?_)) ?_)
    · iintro ⟨H1, H2, H3⟩
      isplitr [H2]
      · isplitl [H1]; · iexact H1
        iexact H3
      iexact H2
    · have := above (m := 1) (le_refl 15) hb t ht; omega
    · iintro ⟨⟨H1, H3⟩, H2⟩
      isplitl [H1]; · iexact H1
      isplitl [H2]; · iexact H2
      iexact H3
  · rw [show h.val.blt 8 = false from Bool.eq_false_iff.mpr fun e => hh (Nat.ble_eq.mp e)]
    rw [show min h.val 8 = min (h.val + 1) 8 by omega]
    exact T.nil

/-- The rows from the back. -/
theorem back (h : Fin 14) (b b' : Fin 4 → ℕ) (hb : ∀ q, 1 ≤ b' q) :
    T X Wt K c iprop(ins X Wt c (wait (min (h.val + 1) 8) (min h.val 7) b) ∗ going c 15 b') (chain (bif h.val.blt 7 then [stRecvX c h.castSucc.rev] else []))
      iprop(ins X Wt c (wait (min (h.val + 1) 8) (min (h.val + 1) 7) b) ∗ going c 15 b') := by
  unfold going
  have hr : h.castSucc.rev.val = 14 - h.val := by rw [Fin.val_rev]; show 15 - (h.val + 1) = _; omega
  by_cases hh : h.val < 7
  · rw [show h.val.blt 7 = true from Nat.ble_eq.mpr hh]
    obtain ⟨w1, w2⟩ := wait_back (min (h.val + 1) 8) (min h.val 7) b h.castSucc.rev (by omega) (by omega)
    rw [show min (h.val + 1) 7 = min h.val 7 + 1 by omega]
    refine T.one X Wt K c (T.conseq ?_ (T.frame (outs c (todo 15 b')) (recvX_step X Wt K c h.castSucc.rev (po := todo 15 b') w1 w2 fun t ht => ?_)) ?_)
    · iintro ⟨H1, H2, H3⟩
      isplitr [H2]
      · isplitl [H1]; · iexact H1
        iexact H3
      iexact H2
    · have := above (m := 1) (le_refl 15) hb t ht; omega
    · iintro ⟨⟨H1, H3⟩, H2⟩
      isplitl [H1]; · iexact H1
      isplitl [H2]; · iexact H2
      iexact H3
  · rw [show h.val.blt 7 = false from Bool.eq_false_iff.mpr fun e => hh (Nat.ble_eq.mp e)]
    rw [show min (h.val + 1) 7 = min h.val 7 by omega]
    exact T.nil

theorem dst0 (h : Fin 15) : dstSlot 0 h = sl h := by revert h; decide
theorem dst1 (h : Fin 15) : dstSlot 1 h = sl h := by revert h; decide
theorem dst2 (h : Fin 15) : dstSlot 2 h = sl h.rev := by revert h; decide
theorem dst3 (h : Fin 15) : dstSlot 3 h = sl h.rev := by revert h; decide

theorem T.swap {P P' Q Q' : sProp 𝕄} {e : PP F} (h : T X Wt K c iprop(P ∗ P') e iprop(Q ∗ Q')) (R : sProp 𝕄) :
    T X Wt K c iprop(R ∗ P ∗ P') e iprop(R ∗ Q ∗ Q') :=
  T.conseq sep_comm.1 (T.frame R h) sep_comm.1
theorem T.assoc {P P' Q Q' : sProp 𝕄} {e : PP F} (h : T X Wt K c iprop(P ∗ P') e iprop(Q ∗ Q')) (R : sProp 𝕄) :
    T X Wt K c iprop(P ∗ P' ∗ R) e iprop(Q ∗ Q' ∗ R) :=
  T.conseq sep_assoc.2 (T.frame R h) sep_assoc.1

/-- The state between hops. -/
def hops (c : Dev nD) (n : ℕ) : sProp 𝕄 :=
  iprop(oPts c (gl (acc X Wt c n)) ∗ ins X Wt c (wait (min n 8) (min n 7) (cnt n 0)) ∗ going c 15 (cnt (n + 1) 0))

theorem hop_step (h : Fin 14) : T X Wt K c (hops X Wt c h.val) (stHop c h) (hops X Wt c (h.val + 1)) := by
  unfold hops stHop
  have hr : h.castSucc.rev.val = 14 - h.val := by rw [Fin.val_rev]; show 15 - (h.val + 1) = _; omega
  have hlt : h.val < 14 := h.isLt
  refine T.seq (T.swap X Wt K c (pass_loop X Wt K c _ _ h) _) ?_
  rw [cnt_four, cnt_four]
  refine T.seq (T.swap X Wt K c (front X Wt K c h _ _ fun q => by rw [cnt_zero]; omega) _) ?_
  refine T.seq (T.assoc X Wt K c (add_step X Wt K c id (sl h.castSucc) 0 h.castSucc h.castSucc 0 1 rfl rfl rfl (dst0 _) (dst1 _)
    (fun hw => by have h1 : min (h.val + 1) 8 ≤ h.val := hw.1; have h2 : min h.val 7 + h.val ≤ 14 := hw.2; omega)
    (fun hw => by have h1 : cnt (h.val + 1) 0 0 ≤ h.val := hw; rw [cnt_zero] at h1; omega)
    (fun hw => by have h1 : cnt (h.val + 1) 0 1 ≤ h.val := hw; rw [cnt_zero] at h1; omega) _) _) ?_
  refine T.seq (T.swap X Wt K c (back X Wt K c h _ _ fun q => by rw [cnt_zero]; omega) _) ?_
  have e := acc_succ X Wt c h.castSucc
  rw [show acc X Wt c (h.val + 1) = acc X Wt c (h.castSucc.val + 1) from rfl, e]
  refine T.conseq (Entails.refl _) (T.assoc X Wt K c (add_step X Wt K c id (sl h.castSucc.rev) 1 h.castSucc.rev h.castSucc 2 3 rfl rfl rfl (dst2 _) (dst3 _)
    (fun hw => by have h1 : min (h.val + 1) 8 ≤ h.castSucc.rev.val := hw.1; have h2 : min (h.val + 1) 7 + h.castSucc.rev.val ≤ 14 := hw.2; omega)
    (fun hw => by have h1 : cnt (h.val + 1) 0 2 ≤ h.val := hw; rw [cnt_zero] at h1; omega)
    (fun hw => by have h1 : cnt (h.val + 1) 0 3 ≤ h.val := hw; rw [cnt_zero] at h1; omega) _) _) ?_
  rw [Function.update_of_ne (show (1 : Fin 2) ≠ 0 by decide)]
  exact Entails.refl _

theorem hop_loop : T X Wt K c (hops X Wt c 0) (chain (all14.map (stHop c))) (hops X Wt c 14) :=
  T.chain14 (stHop c) (hops X Wt c) (hop_step X Wt K c)

/-! ## The last hop -/

/-- The passed-on halves of the last hop's arrivals. -/
def lefts (c : Dev nD) (n : ℕ) : sProp 𝕄 :=
  fam (fun _ => iprop(emp)) (fun q => pieceW c (dstSlot q 14) q fullShare.left (wgF Wt c)) fun q : Fin 4 => n ≤ (o4 q).val

/-- The result's halves: everything added, scaled, cut off at zero. -/
def res (c : Dev nD) (z : F .f32) (b : Fin 2) : FVec F S256x4096 .f32 := fin z (addV X Wt c (slotAt b 14) b (acc X Wt c 14 b))

theorem res_eq (z : F .f32) : res X Wt c z =
    Function.update (Function.update (acc X Wt c 14) 0 (fin z (addV X Wt c 15 0 (acc X Wt c 14 0)))) 1 (fin z (addV X Wt c 1 1 (acc X Wt c 14 1))) := by
  funext b; revert b
  rw [Fin.forall_fin_two]
  constructor
  · rw [Function.update_of_ne (by decide), Function.update_self]; rfl
  · rw [Function.update_self]; rfl

theorem last_recv :
    T X Wt K c iprop((lefts Wt c 0 ∗ ins X Wt c (wait 8 7 (cnt 14 0))) ∗ going c 15 (cnt 15 0)) (chain ([0, 2, 1, 3].map fun q => stRecvW q 14))
      iprop((lefts Wt c 4 ∗ ins X Wt c (wait 8 7 (cnt 14 4))) ∗ going c 15 (cnt 15 0)) :=
  T.chain4 (fun q => stRecvW q 14) (fun n => iprop((lefts Wt c n ∗ ins X Wt c (wait 8 7 (cnt 14 n))) ∗ going c 15 (cnt 15 0))) fun i => by
    obtain ⟨w1, w2⟩ := wait_inr (p := 8) (r := 7) (h := 14) (cnt_at 14 i) (cnt_at' 14 i) (cnt_ne 14 i)
    have hq : ∀ q, q = o4 i ↔ (o4 q).val = i.val := fun q => ⟨fun e => by rw [e, o4_o4], fun e => by rw [← Fin.ext e, o4_o4]⟩
    obtain ⟨R, e1, e2⟩ := fam_step (fun _ => (iprop(emp) : sProp 𝕄)) (fun q => pieceW c (dstSlot q 14) q fullShare.left (wgF Wt c))
      (p := fun q => i.val ≤ (o4 q).val) (p' := fun q => i.val + 1 ≤ (o4 q).val) (o4 i) (fun q => by rw [hq]; omega) (by rw [o4_o4]; omega)
    unfold lefts going
    rw [e1, e2]
    refine T.conseq ?_ (T.frame iprop(R ∗ outs c (todo 15 (cnt 15 0))) (recvW_step X Wt K c (o4 i) 14 (po := todo 15 (cnt 15 0)) w1 w2 fun t ht => ?_)) ?_
    · iintro ⟨⟨⟨-, H1⟩, H2⟩, H3, H4⟩
      isplitl [H2 H4]
      · isplitl [H2]; · iexact H2
        iexact H4
      isplitl [H1]; · iexact H1
      iexact H3
    · have := above (m := 15) (le_refl 15) (cnt_le 15 0) t ht
      show 3 + 14 < _
      rcases t with k | x
      · have h : 15 ≤ k.val := ht; omega
      · have h : cnt 15 0 x.1 ≤ x.2.val := ht; rw [cnt_zero] at h; omega
    · iintro ⟨⟨H1, H2, H3⟩, H4, H5⟩
      isplitr [H3 H5]
      · isplitr [H2]
        · isplitl [H1]; · iexact H1
          iexact H4
        iexact H2
      isplitl [H5]; · iexact H5
      iexact H3

theorem last_step (z : F .f32) :
    T X Wt K c iprop(hops X Wt c 14 ∗ lefts Wt c 0) (stLast c z)
      iprop(oPts c (gl (res X Wt c z)) ∗ ins X Wt c (wait 8 7 (cnt 15 0)) ∗ lefts Wt c 4 ∗ going c 15 (cnt 15 0)) := by
  unfold hops stLast
  refine T.conseq ?_ (T.seq (T.swap X Wt K c (last_recv X Wt K c) (oPts c (gl (acc X Wt c 14)))) ?_) (Entails.refl _)
  · iintro ⟨⟨H1, H2, H3⟩, H4⟩
    isplitl [H1]; · iexact H1
    isplitr [H3]
    · isplitl [H4]; · iexact H4
      iexact H2
    iexact H3
  rw [cnt_four, res_eq]
  have hA := add_step X Wt K c (p := wait 8 7 (cnt 15 0)) (fin z) 15 0 14 14 0 1 rfl rfl rfl (dst0 _) (dst1 _)
    (fun hw => by have h2 : 7 + 14 ≤ 14 := hw.2; omega) (fun hw => by have h1 : cnt 15 0 0 ≤ 14 := hw; rw [cnt_zero] at h1; omega)
    (fun hw => by have h1 : cnt 15 0 1 ≤ 14 := hw; rw [cnt_zero] at h1; omega) (acc X Wt c 14)
  have hB := add_step X Wt K c (p := wait 8 7 (cnt 15 0)) (fin z) 1 1 0 14 2 3 rfl rfl rfl (dst2 _) (dst3 _)
    (fun hw => by have h2 : 8 ≤ 0 := hw.1; omega) (fun hw => by have h1 : cnt 15 0 2 ≤ 14 := hw; rw [cnt_zero] at h1; omega)
    (fun hw => by have h1 : cnt 15 0 3 ≤ 14 := hw; rw [cnt_zero] at h1; omega)
    (Function.update (acc X Wt c 14) 0 (fin z (addV X Wt c 15 0 (acc X Wt c 14 0))))
  rw [Function.update_of_ne (show (1 : Fin 2) ≠ 0 by decide)] at hB
  refine T.conseq ?_ (T.frame iprop(lefts Wt c 4 ∗ going c 15 (cnt 15 0)) (T.seq hA hB)) ?_
  · iintro ⟨H1, ⟨H2, H3⟩, H4⟩
    isplitl [H1 H3]
    · isplitl [H1]; · iexact H1
      iexact H3
    isplitl [H2]; · iexact H2
    iexact H4
  · iintro ⟨⟨H1, H2⟩, H3, H4⟩
    isplitl [H1]; · iexact H1
    isplitl [H2]; · iexact H2
    isplitl [H3]; · iexact H3
    iexact H4

/-! ## Waiting for the sends -/

theorem fam_all {I : Type} [Fintype I] (A B : I → sProp 𝕄) {p : I → Prop} (h : ∀ i, p i) : fam A B p = bigSep Finset.univ A :=
  bigSep_congr fun i _ => if_pos (h i)
theorem fam_none {I : Type} [Fintype I] (A B : I → sProp 𝕄) {p : I → Prop} (h : ∀ i, ¬ p i) : fam A B p = bigSep Finset.univ B :=
  bigSep_congr fun i _ => if_neg (h i)

theorem upd_ne (b : Fin 4 → ℕ) (q : Fin 4) (v : ℕ) (q' : Fin 4) (h : q' ≠ q) : Function.update b q v q' = b q' := Function.update_of_ne h _ _

theorem drain_two (n : ℕ) (b : Fin 4 → ℕ) (q q' : Fin 4) (hq : q' ≠ q) (h : Fin 15) (h0 : b q = h.val) (h0' : b q' = h.val) :
    T X Wt K c iprop(drs X Wt c (todo n b) ∗ OW c 0) (chain ([q, q'].map fun q => stSentW q h))
      iprop(drs X Wt c (todo n (Function.update (Function.update b q (h.val + 1)) q' (h.val + 1))) ∗ OW c 0) := by
  obtain ⟨w1, w2⟩ := todo_inr (n := n) (b := b) (b' := Function.update b q (h.val + 1)) h0 (Function.update_self _ _ _) (upd_ne b q _)
  obtain ⟨v1, v2⟩ := todo_inr (n := n) (b := Function.update b q (h.val + 1)) (b' := Function.update (Function.update b q (h.val + 1)) q' (h.val + 1))
    ((upd_ne b q _ q' hq).trans h0') (Function.update_self _ _ _) (upd_ne _ q' _)
  exact T.seq (sentW_step X Wt K c q h w1 w2) (T.seq (sentW_step X Wt K c q' h v1 v2) T.nil)

theorem drainF_loop : T X Wt K c iprop(drs X Wt c (todo 0 ![0, 0, 0, 0]) ∗ OW c 0) (chain (all15.map stDrainF)) iprop(drs X Wt c (todo 0 ![15, 15, 0, 0]) ∗ OW c 0) :=
  T.chain15 stDrainF (fun n => iprop(drs X Wt c (todo 0 ![n, n, 0, 0]) ∗ OW c 0)) fun h => by
    have e : (![h.val + 1, h.val + 1, 0, 0] : Fin 4 → ℕ) = Function.update (Function.update ![h.val, h.val, 0, 0] 0 (h.val + 1)) 1 (h.val + 1) := by
      funext q; match q with | 0 => rfl | 1 => rfl | 2 => rfl | 3 => rfl
    rw [e]; exact drain_two X Wt K c 0 _ 0 1 (by decide) h rfl rfl
theorem drainB_loop : T X Wt K c iprop(drs X Wt c (todo 0 ![15, 15, 0, 0]) ∗ OW c 0) (chain (all15.map stDrainB)) iprop(drs X Wt c (todo 0 ![15, 15, 15, 15]) ∗ OW c 0) :=
  T.chain15 stDrainB (fun n => iprop(drs X Wt c (todo 0 ![15, 15, n, n]) ∗ OW c 0)) fun h => by
    have e : (![15, 15, h.val + 1, h.val + 1] : Fin 4 → ℕ) = Function.update (Function.update ![15, 15, h.val, h.val] 2 (h.val + 1)) 3 (h.val + 1) := by
      funext q; match q with | 0 => rfl | 1 => rfl | 2 => rfl | 3 => rfl
    rw [e]; exact drain_two X Wt K c 0 _ 2 3 (by decide) h rfl rfl
theorem drainX_loop : T X Wt K c iprop(drs X Wt c (todo 0 ![15, 15, 15, 15]) ∗ OW c 0) (chain (all15.map (stSentX c))) iprop(drs X Wt c (todo 15 ![15, 15, 15, 15]) ∗ OW c 0) :=
  T.chain15 (stSentX c) (fun n => iprop(drs X Wt c (todo n ![15, 15, 15, 15]) ∗ OW c 0)) fun k => by
    obtain ⟨h1, h2⟩ := todo_inl ![15, 15, 15, 15] k
    exact sentX_step X Wt K c k h1 h2

theorem none_left (b : Fin 4 → ℕ) (hb : ∀ q, 15 ≤ b q) (t : Tr) : ¬ todo 15 b t := by
  rcases t with k | x
  · show ¬ 15 ≤ k.val; omega
  · have := hb x.1; show ¬ b x.1 ≤ x.2.val; omega
theorem all_left (t : Tr) : todo 0 ![0, 0, 0, 0] t := by
  rcases t with k | ⟨q, h⟩
  · exact Nat.zero_le _
  · match q with | 0 => exact Nat.zero_le _ | 1 => exact Nat.zero_le _ | 2 => exact Nat.zero_le _ | 3 => exact Nat.zero_le _
theorem all_left' (t : Tr) : todo 0 (cnt 0 0) t := by
  rcases t with k | x
  · exact Nat.zero_le _
  · exact Nat.zero_le _
theorem all_wait (t : Tr) : wait 0 0 (cnt 0 0) t := by
  rcases t with k | x
  · refine ⟨Nat.zero_le _, ?_⟩; omega
  · exact Nat.zero_le _
theorem none_wait (t : Tr) : ¬ wait 8 7 (cnt 15 0) t := by
  rcases t with k | x
  · rintro ⟨h1, h2⟩; omega
  · intro h; have h : cnt 15 0 x.1 ≤ x.2.val := h; rw [cnt_zero] at h; omega

/-- Everything started: nothing is owed, and every send is still to be waited for. -/
theorem all_sent : (going c 15 (cnt 15 0) : sProp 𝕄) = iprop(drs X Wt c (todo 0 ![0, 0, 0, 0]) ∗ OW c 0) := by
  unfold going outs drs
  rw [fam_none _ _ (none_left _ (cnt_le 15 0)), fam_all _ _ all_left, oweT_end c (cnt_le 15 0)]

/-! ## The whole body -/

/-- What the body's main part starts from. -/
def pre (f : (wgB : Ref sig .tc).ty.Contents (Elt F)) : sProp 𝕄 :=
  iprop(wPts Wt c ∗ slot0 Wt c f (fun q => 0 ≤ (o4 q).val) ∗ rowsR X c 0 ∗ xPts X c ∗ (∃ f, oPts c f) ∗ ins X Wt c (wait 0 0 (cnt 0 0)) ∗ lefts Wt c 0 ∗ going c 0 (cnt 0 0))
/-- What it ends with. -/
def post (z : F .f32) (f : (wgB : Ref sig .tc).ty.Contents (Elt F)) : sProp 𝕄 :=
  iprop(wPts Wt c ∗ slot0 Wt c f (fun q => 4 ≤ (o4 q).val) ∗ rowsR X c 15 ∗ xPts X c ∗ oPts c (gl (res X Wt c z)) ∗ ins X Wt c (wait 8 7 (cnt 15 0)) ∗ lefts Wt c 4
    ∗ drs X Wt c (todo 15 ![15, 15, 15, 15]) ∗ OW c 0)

theorem rest_triple (z : F .f32) (f : (wgB : Ref sig .tc).ty.Contents (Elt F)) : T X Wt K c (pre X Wt c f) (rest c z) (post X Wt c z f) := by
  unfold rest
  refine T.conseq (P := iprop((wPts Wt c ∗ slot0 Wt c f (fun q => 0 ≤ (o4 q).val) ∗ going c 0 (cnt 0 0)) ∗ rowsR X c 0 ∗ xPts X c ∗ (∃ f, oPts c f) ∗ ins X Wt c (wait 0 0 (cnt 0 0)) ∗ lefts Wt c 0)) ?_
    (T.seq (T.frame _ (stage_loop X Wt K c f)) ?_) (Entails.refl _)
  · unfold pre
    iintro ⟨H1, H2, H3, H4, H5, H6, H7, H8⟩
    isplitl [H1 H2 H8]
    · isplitl [H1]; · iexact H1
      isplitl [H2]; · iexact H2
      iexact H8
    isplitl [H3]; · iexact H3
    isplitl [H4]; · iexact H4
    isplitl [H5]; · iexact H5
    isplitl [H6]; · iexact H6
    iexact H7
  rw [cnt_four]
  refine T.conseq (P := iprop((rowsR X c 0 ∗ going c 0 (cnt 1 0)) ∗ (wPts Wt c ∗ slot0 Wt c f (fun q => 4 ≤ (o4 q).val) ∗ xPts X c ∗ (∃ f, oPts c f) ∗ ins X Wt c (wait 0 0 (cnt 0 0)) ∗ lefts Wt c 0))) ?_
    (T.seq (T.frame _ (sendX_loop X Wt K c (cnt 1 0))) ?_) (Entails.refl _)
  · iintro ⟨⟨H1, H2, H8⟩, H3, H4, H5, H6, H7⟩
    isplitl [H3 H8]
    · isplitl [H3]; · iexact H3
      iexact H8
    isplitl [H1]; · iexact H1
    isplitl [H2]; · iexact H2
    isplitl [H4]; · iexact H4
    isplitl [H5]; · iexact H5
    isplitl [H6]; · iexact H6
    iexact H7
  refine T.conseq (P := iprop((xPts X c ∗ wPts Wt c ∗ ∃ f, oPts c f) ∗ (rowsR X c 15 ∗ slot0 Wt c f (fun q => 4 ≤ (o4 q).val) ∗ ins X Wt c (wait 0 0 (cnt 0 0)) ∗ lefts Wt c 0 ∗ going c 15 (cnt 1 0)))) ?_
    (T.seq (T.frame _ (own_step X Wt K c)) ?_) (Entails.refl _)
  · iintro ⟨⟨H3, H8⟩, H1, H2, H4, H5, H6, H7⟩
    isplitl [H4 H1 H5]
    · isplitl [H4]; · iexact H4
      isplitl [H1]; · iexact H1
      iexact H5
    isplitl [H3]; · iexact H3
    isplitl [H2]; · iexact H2
    isplitl [H6]; · iexact H6
    isplitl [H7]; · iexact H7
    iexact H8
  have h0 : hops X Wt c 0 = iprop(oPts c (gl (accZ X Wt c)) ∗ ins X Wt c (wait 0 0 (cnt 0 0)) ∗ going c 15 (cnt 1 0)) := rfl
  have hh := hop_loop X Wt K c
  rw [h0] at hh
  refine T.conseq (P := iprop((oPts c (gl (accZ X Wt c)) ∗ ins X Wt c (wait 0 0 (cnt 0 0)) ∗ going c 15 (cnt 1 0)) ∗ (lefts Wt c 0 ∗ wPts Wt c ∗ slot0 Wt c f (fun q => 4 ≤ (o4 q).val) ∗ rowsR X c 15 ∗ xPts X c))) ?_
    (T.seq (T.frame _ hh) ?_) (Entails.refl _)
  · iintro ⟨⟨H4, H1, H5⟩, H3, H2, H6, H7, H8⟩
    isplitl [H5 H6 H8]
    · isplitl [H5]; · iexact H5
      isplitl [H6]; · iexact H6
      iexact H8
    isplitl [H7]; · iexact H7
    isplitl [H1]; · iexact H1
    isplitl [H2]; · iexact H2
    isplitl [H3]; · iexact H3
    iexact H4
  refine T.conseq sep_assoc.2 (T.seq (T.frame _ (last_step X Wt K c z)) ?_) (Entails.refl _)
  rw [all_sent X Wt c]
  refine T.conseq (P := iprop((drs X Wt c (todo 0 ![0, 0, 0, 0]) ∗ OW c 0) ∗ (oPts c (gl (res X Wt c z)) ∗ ins X Wt c (wait 8 7 (cnt 15 0)) ∗ lefts Wt c 4 ∗ wPts Wt c ∗ slot0 Wt c f (fun q => 4 ≤ (o4 q).val) ∗ rowsR X c 15 ∗ xPts X c))) ?_
    (T.frame _ (T.seq (drainF_loop X Wt K c) (T.seq (drainB_loop X Wt K c) (drainX_loop X Wt K c)))) ?_
  · iintro ⟨⟨H1, H2, H3, H4⟩, H5, H6, H7, H8⟩
    isplitl [H4]; · iexact H4
    isplitl [H1]; · iexact H1
    isplitl [H2]; · iexact H2
    isplitl [H3]; · iexact H3
    isplitl [H5]; · iexact H5
    isplitl [H6]; · iexact H6
    isplitl [H7]; · iexact H7
    iexact H8
  · unfold post
    iintro ⟨⟨H9, HO⟩, H1, H2, H3, H5, H6, H7, H8⟩
    isplitl [H5]; · iexact H5
    isplitl [H6]; · iexact H6
    isplitl [H7]; · iexact H7
    isplitl [H8]; · iexact H8
    isplitl [H1]; · iexact H1
    isplitl [H2]; · iexact H2
    isplitl [H3]; · iexact H3
    isplitl [H9]; · iexact H9
    iexact HO

/-- The two scales, and their product. -/
abbrev CS (F : FTy → Type) : Type := (cc0_stg2_0 : Ref sig .tc).ty.Contents (Elt F)
def sxPts (c : Dev nD) (f : CS F) : sProp 𝕄 := (sxM.view.loc (c : Thread nD τ)) ↦[Finset.univ]{fullShare} f
def swPts (c : Dev nD) (f : CS F) : sProp 𝕄 := (swM.view.loc (c : Thread nD τ)) ↦[Finset.univ]{fullShare} f
def scl (f : CS F) : F .f32 :=
  (sxM.access (Rect.unit (s := S1) ![0] S1.size inb_S1_S1_0)).read (Elt F) f (Shape.Idx.first (numel1_S1.symm ▸ Nat.one_pos))
def zed (f g : CS F) : F .f32 := k0_pay1 (scl f) (scl g)

/-- The right to send transfer `t`, before it is known that its target is ready. -/
def armed (c : Dev nD) (t : Tr) : sProp 𝕄 := iprop(atPos ER (trCell c false t) 0 ∅ 0 ∗ dutyTok ER (trCell c false t) 0 0 ∗ dutyTok ER (trCell (tgt c t) true t) 0 0)

theorem arm : iprop((bigSep Finset.univ fun t => armed c t) ∗ (bigSep Finset.univ fun t : Tr => spot (tgt c t) t)) ⊢ (outs c (todo 0 (cnt 0 0)) : sProp 𝕄) := by
  unfold outs
  rw [fam_all _ _ all_left', ← bigSep_sep']
  have h : ∀ t, BIBase.Entails (PROP := sProp 𝕄) iprop(armed c t ∗ spot (tgt c t) t) (unsent c t) := fun t => ?_
  · exact bigSep_mono fun t _ => h t
  unfold armed unsent
  iintro ⟨⟨H1, H2, H3⟩, H4⟩
  isplitl [H1]; · iexact H1
  isplitl [H2]; · iexact H2
  isplitl [H3]; · iexact H3
  iexact H4

theorem sig_loop (O : CellTallies nD τ sig Unit) : T X Wt K c iprop(sigs c 0 ∗ OW c (O + oweB c 0)) (chain (all15.map (stSig c))) iprop(sigs c 15 ∗ OW c O) := by
  have h := T.chain15 (X := X) (Wt := Wt) (K := K) (c := c) (stSig c) (fun n => iprop(sigs c n ∗ OW c (O + oweB c n))) fun j => sig_step X Wt K c j O
  rw [oweB_end, add_zero] at h
  exact h

/-- What the body is entered with: the rights of the hand-shake and of the transfers, the staged blocks, the two buffers to be filled. -/
def enter (f : (wgB : Ref sig .tc).ty.Contents (Elt F)) (a b : CS F) : sProp 𝕄 :=
  iprop((sigs c 0 ∗ OW c (oweT c (todo 0 (cnt 0 0)) + oweB c 0)) ∗ (atPos ER (barCell c) 0 ∅ 0 ∗ cred (tallyAt (barCell c) () 15)) ∗ (bigSep Finset.univ fun t => armed c t)
    ∗ sxPts c a ∗ swPts c b
    ∗ wPts Wt c ∗ slot0 Wt c f (fun q => 0 ≤ (o4 q).val) ∗ rowsR X c 0 ∗ xPts X c ∗ (∃ f, oPts c f) ∗ ins X Wt c (wait 0 0 (cnt 0 0)) ∗ lefts Wt c 0)
/-- What it is left with. -/
def leave (f : (wgB : Ref sig .tc).ty.Contents (Elt F)) (a b : CS F) : sProp 𝕄 :=
  iprop(semVal (barCell c) 0 ∗ sxPts c a ∗ swPts c b ∗ post X Wt c (zed a b) f)

theorem loads_triple {P Q : sProp 𝕄} (a b : CS F) (k : F .f32 → F .f32 → PP F) (h : T X Wt K c P (k (scl a) (scl b)) Q) :
    T X Wt K c iprop(sxPts c a ∗ swPts c b ∗ P) (do
      let a ← smemLoad sxM (Rect.unit (s := S1) ![0] S1.size inb_S1_S1_0) numel1_S1 rfl
      let b ← smemLoad swM (Rect.unit (s := S1) ![0] S1.size inb_S1_S1_0) numel1_S1 rfl
      k a b) iprop(Q ∗ sxPts c a ∗ swPts c b) := by
  replace h := T.frame iprop(sxPts c a ∗ swPts c b) h
  unfold T scl at h
  unfold T
  unfold sxPts swPts
  iintro ⟨#HR, Ha, Hb, HP⟩
  rw [wp_bind]
  unfold smemLoad
  iapply (wp_smemLoadElt 𝒱₀ (c : Thread nD τ) none Set.univ (m := sxM) (r := Rect.unit (s := S1) ![0] S1.size inb_S1_S1_0) (f := a) (Finset.subset_univ _)) $$ Ha; iintro Ha
  rw [wp_ret]; imodintro
  rw [wp_bind]
  iapply (wp_smemLoadElt 𝒱₀ (c : Thread nD τ) none Set.univ (m := swM) (r := Rect.unit (s := S1) ![0] S1.size inb_S1_S1_0) (f := b) (Finset.subset_univ _)) $$ Hb; iintro Hb
  rw [wp_ret]; imodintro
  iapply h
  isplitr; · iexact HR
  isplitl [HP]; · iexact HP
  unfold sxPts swPts
  isplitl [Ha]; · iexact Ha
  iexact Hb

theorem prog_triple (f : (wgB : Ref sig .tc).ty.Contents (Elt F)) (a b : CS F) : T X Wt K c (enter X Wt c f a b) prog (leave X Wt c f a b) := by
  unfold prog
  have hT : T X Wt K c (enter X Wt c f a b) (chain (all15.map (stSig c)) >>= fun _ => stBar >>= fun _ => do
      let a ← smemLoad sxM (Rect.unit (s := S1) ![0] S1.size inb_S1_S1_0) numel1_S1 rfl
      let b ← smemLoad swM (Rect.unit (s := S1) ![0] S1.size inb_S1_S1_0) numel1_S1 rfl
      rest c (k0_pay1 a b)) (leave X Wt c f a b) := by
    unfold enter
    refine T.seq (T.frame _ (sig_loop X Wt K c (oweT c (todo 0 (cnt 0 0))))) ?_
    refine T.conseq (P := iprop((atPos ER (barCell c) 0 ∅ 0 ∗ cred (tallyAt (barCell c) () 15) ∗ OW c (oweT c (todo 0 (cnt 0 0)))) ∗ (bigSep Finset.univ fun t => armed c t)
      ∗ sxPts c a ∗ swPts c b
      ∗ wPts Wt c ∗ slot0 Wt c f (fun q => 0 ≤ (o4 q).val) ∗ rowsR X c 0 ∗ xPts X c ∗ (∃ f, oPts c f) ∗ ins X Wt c (wait 0 0 (cnt 0 0)) ∗ lefts Wt c 0)) ?_
      (T.seq (T.frame _ (bar_step X Wt K c)) ?_) (Entails.refl _)
    · iintro ⟨⟨-, H1⟩, ⟨H2, H3⟩, H4⟩
      isplitr [H4]
      · isplitl [H2]; · iexact H2
        isplitl [H3]; · iexact H3
        iexact H1
      iexact H4
    refine T.conseq (P := iprop((sxPts c a ∗ swPts c b ∗ pre X Wt c f) ∗ semVal (barCell c) 0)) ?_
      (T.frame _ (loads_triple X Wt K c a b (fun x y => rest c (k0_pay1 x y)) (rest_triple X Wt K c (zed a b) f))) ?_
    · unfold pre going
      iintro ⟨⟨HB, HS, HO⟩, HA, Ha, Hb, H1, H2, H3, H4, H5, H6, H7⟩
      ihave HU := (arm c) $$ [HA HS]
      · isplitl [HA]; · iexact HA
        iexact HS
      isplitr [HB]
      · isplitl [Ha]; · iexact Ha
        isplitl [Hb]; · iexact Hb
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HU]; · iexact HU
        iexact HO
      iexact HB
    · unfold leave
      iintro ⟨⟨H3, H1, H2⟩, H4⟩
      isplitl [H4]; · iexact H4
      isplitl [H1]; · iexact H1
      isplitl [H2]; · iexact H2
      iexact H3
  unfold T at hT ⊢
  rw [wp_bind]
  unfold Prog.lift
  rw [wp_deviceId, wp_ret]
  rw [show (c : Thread nD τ).1 = c from rfl]
  refine BIBase.Entails.trans ?_ fupd_intro
  exact hT

end Cert.RingMM

end
-- ==== Proof.Split.lean ====
/-
  The buffers cut in the pieces the body moves, and put together again; the semaphores likewise.
-/
module

public import proofs.«01_k».proof.Proof.Loops
public import Idealize.ShloMosaic.Lib.Ring

@[expose] public section

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (chain)
open scoped Classical

variable {F : FTy → Type} [FloatOps F]

local notation "𝕄" => MT nD τ sig Unit (Elt F) ℕ UU ℕ

/-! ## Families over slots -/

/-- A family over sixteen, one taken apart and the rest along an enumeration. -/
theorem slots_split (z : Fin 16) (σ : Fin 15 → Fin 16) (hσ : Function.Injective σ) (hz : ∀ i, σ i ≠ z) (hc : ∀ s, s = z ∨ ∃ i, σ i = s) (Φ : Fin 16 → sProp 𝕄) :
    bigSep Finset.univ Φ = iprop(Φ z ∗ bigSep Finset.univ fun i => Φ (σ i)) := by
  have e : (Finset.univ : Finset (Fin 16)) = insert z (Finset.univ.map ⟨σ, hσ⟩) := by
    ext s
    constructor
    · rintro -
      rcases hc s with rfl | ⟨i, rfl⟩
      · exact Finset.mem_insert_self _ _
      · exact Finset.mem_insert_of_mem (Finset.mem_map.mpr ⟨i, Finset.mem_univ _, rfl⟩)
    · intro _; exact Finset.mem_univ _
  have hn : z ∉ Finset.univ.map ⟨σ, hσ⟩ := fun h => by
    obtain ⟨i, -, hi⟩ := Finset.mem_map.mp h
    exact hz i hi
  rw [e, bigSep_insert hn, bigSep_map]
  rfl

theorem dst_inj : ∀ q : Fin 4, Function.Injective (dstSlot q) := by
  intro q a b h; revert h; revert a b q; decide +kernel
theorem dst_ne : ∀ (q : Fin 4) (i : Fin 15), dstSlot q i ≠ 0 := by decide +kernel
theorem dst_all : ∀ (q : Fin 4) (s : Fin 16), s = 0 ∨ ∃ i, dstSlot q i = s := by decide +kernel
theorem src_inj : ∀ q : Fin 4, Function.Injective (srcSlot q) := by
  intro q a b h; revert h; revert a b q; decide +kernel
theorem src_ne : ∀ (q : Fin 4) (i : Fin 15), srcSlot q i ≠ dstSlot q 14 := by decide +kernel
theorem src_all : ∀ (q : Fin 4) (s : Fin 16), s = dstSlot q 14 ∨ ∃ i, srcSlot q i = s := by decide +kernel
theorem sl_inj : Function.Injective sl := by
  intro a b h; revert h; revert a b; decide
theorem sl_ne : ∀ i : Fin 15, sl i ≠ 0 := by decide
theorem sl_all : ∀ s : Fin 16, s = 0 ∨ ∃ i, sl i = s := by decide

/-! ## The buffers cut in pieces -/

variable (X : Dev nD → CX F) (Wt : Dev nD → CW F) (c : Dev nD)

/-- The gathered weights' and rows' buffers, whole. -/
abbrev wgAll (c : Dev nD) (sh : PosShare TreeShare) (f : (wgB : Ref sig .tc).ty.Contents (Elt F)) : sProp 𝕄 := ((c : Thread nD τ).loc cc0_scratch1) ↦{sh} f
abbrev xgAll (c : Dev nD) (sh : PosShare TreeShare) (f : (xgB : Ref sig .tc).ty.Contents (Elt F)) : sProp 𝕄 := ((c : Thread nD τ).loc cc0_scratch0) ↦{sh} f
/-- The staged rows, whole. -/
abbrev xAll (c : Dev nD) (sh : PosShare TreeShare) (f : CX F) : sProp 𝕄 := ((c : Thread nD τ).loc cc0_stg0_0) ↦{sh} f

theorem wg_disj (b b' : Fin 4 × Fin 16) (h : b ≠ b') : Disjoint ((wgP b.2 b.1).view.set : Finset IW) (wgP b'.2 b'.1).view.set :=
  Finset.disjoint_left.mpr fun i hi hi' => h (by
    have h1 := (mem_wgP _ _ i).mp hi
    have h2 := (mem_wgP _ _ i).mp hi'
    exact Prod.ext (Fin.ext (h1.2.symm.trans h2.2)) (Fin.ext (h1.1.symm.trans h2.1)))
theorem wg_cover : ((Finset.univ : Finset _).biUnion fun b : Fin 4 × Fin 16 => ((wgP b.2 b.1).view.set : Finset IW)) = (Finset.univ : Finset IW) :=
  Finset.eq_univ_iff_forall.mpr fun i => Finset.mem_biUnion.mpr
    ⟨(⟨(i 2).val / 2048, by have h : (i 2).val < 8192 := (i 2).isLt; omega⟩, ⟨(i 0).val, (i 0).isLt⟩), Finset.mem_univ _, (mem_wgP _ _ i).mpr ⟨rfl, rfl⟩⟩

theorem wg_cut (sh : PosShare TreeShare) (f : (wgB : Ref sig .tc).ty.Contents (Elt F)) :
    wgAll c sh f = bigSep Finset.univ fun q : Fin 4 => bigSep Finset.univ fun s : Fin 16 => pieceW c s q sh f := by
  refine (Ring.pointsTo_blocks (ℓ := (c : Thread nD τ).loc cc0_scratch1) (fun b : Fin 4 × Fin 16 => ((wgP b.2 b.1).view.set : Finset IW)) wg_disj wg_cover f).trans ?_
  rw [bigSep_univ_prod]

/-- As entered: slot 0, and each hop's target. -/
theorem wg_in (sh : PosShare TreeShare) (f : (wgB : Ref sig .tc).ty.Contents (Elt F)) :
    wgAll c sh f = iprop((bigSep Finset.univ fun q : Fin 4 => pieceW c 0 q sh f) ∗ bigSep Finset.univ fun p : Fin 4 × Fin 15 => pieceW c (dstSlot p.1 p.2) p.1 sh f) := by
  rw [wg_cut, bigSep_univ_prod, ← bigSep_sep']
  exact bigSep_congr fun q _ => slots_split 0 (dstSlot q) (dst_inj q) (dst_ne q) (dst_all q) _
/-- As left: each hop's source, and the last hop's target. -/
theorem wg_out (sh : PosShare TreeShare) (f : (wgB : Ref sig .tc).ty.Contents (Elt F)) :
    wgAll c sh f = iprop((bigSep Finset.univ fun q : Fin 4 => pieceW c (dstSlot q 14) q sh f) ∗ bigSep Finset.univ fun p : Fin 4 × Fin 15 => pieceW c (srcSlot p.1 p.2) p.1 sh f) := by
  rw [wg_cut, bigSep_univ_prod, ← bigSep_sep']
  exact bigSep_congr fun q _ => slots_split (dstSlot q 14) (srcSlot q) (src_inj q) (src_ne q) (src_all q) _

theorem xg_disj (b b' : Fin 16) (h : b ≠ b') : Disjoint ((xgP b).view.set : Finset IX) (xgP b').view.set :=
  Finset.disjoint_left.mpr fun i hi hi' => h (Fin.ext (((mem_xgP _ i).mp hi).symm.trans ((mem_xgP _ i).mp hi')))
theorem xg_cover : ((Finset.univ : Finset _).biUnion fun b : Fin 16 => ((xgP b).view.set : Finset IX)) = (Finset.univ : Finset IX) :=
  Finset.eq_univ_iff_forall.mpr fun i => Finset.mem_biUnion.mpr ⟨⟨(i 0).val, (i 0).isLt⟩, Finset.mem_univ _, (mem_xgP _ i).mpr rfl⟩
theorem xg_in (sh : PosShare TreeShare) (f : (xgB : Ref sig .tc).ty.Contents (Elt F)) :
    xgAll c sh f = iprop(pieceX c 0 sh f ∗ bigSep Finset.univ fun k : Fin 15 => pieceX c (sl k) sh f) := by
  refine (Ring.pointsTo_blocks (ℓ := (c : Thread nD τ).loc cc0_scratch0) (fun b : Fin 16 => ((xgP b).view.set : Finset IX)) xg_disj xg_cover f).trans ?_
  exact slots_split 0 sl sl_inj sl_ne sl_all _
/-- Its pieces, each at some contents, are the whole at some contents. -/
theorem xg_out (f₀ : (xgB : Ref sig .tc).ty.Contents (Elt F)) :
    iprop((∃ f, pieceX c 0 fullShare f) ∗ bigSep Finset.univ fun k : Fin 15 => iprop(∃ f, pieceX c (sl k) fullShare f)) ⊢ (iprop(∃ f, xgAll c fullShare f) : sProp 𝕄) :=
  (Entails.of_eq (slots_split 0 sl sl_inj sl_ne sl_all fun s => iprop(∃ f, pieceX c s fullShare f)).symm).trans
    (Ring.pointsTo_blocks_join_exists (ℓ := (c : Thread nD τ).loc cc0_scratch0) (fun b : Fin 16 => ((xgP b).view.set : Finset IX)) xg_disj xg_cover f₀)

/-- The rows on their way out. -/
def outRows (c : Dev nD) : Finset S4096x256.Idx := Finset.univ.biUnion fun k : Fin 15 => ((xP c k).view.set : Finset S4096x256.Idx)
/-- What of the staged rows is not lent. -/
def keptRows (c : Dev nD) : sProp 𝕄 := ((c : Thread nD τ).loc cc0_stg0_0) ↦[Finset.univ \ outRows c]{fullShare.right} (X c)

theorem aft_inj (c : Dev nD) (a b : Fin 16) (h : aft c a = aft c b) : a = b := by
  have h' := congrArg place h
  unfold aft at h'
  rw [place_devAt, place_devAt] at h'
  have : -place c + (place c + a) = -place c + (place c + b) := by rw [h']
  rwa [← addA, ← addA, addN', add0'', add0''] at this
  where add0'' : ∀ a : Fin 16, 0 + a = a := by decide

theorem x_disj (k k' : Fin 15) (h : k ≠ k') : Disjoint ((xP c k).view.set : Finset S4096x256.Idx) (xP c k').view.set :=
  Finset.disjoint_left.mpr fun i hi hi' => h (sl_inj (aft_inj c _ _ (Fin.ext (((mem_xP c _ i).mp hi).symm.trans ((mem_xP c _ i).mp hi')))))

theorem x_cut : xAll c fullShare (X c) = iprop(xPts X c ∗ (bigSep Finset.univ fun k : Fin 15 => pieceR c k fullShare.right (X c)) ∗ keptRows X c) := by
  have h1 : (xAll c fullShare (X c) : sProp 𝕄) = iprop(xPts X c ∗ xAll c fullShare.right (X c)) :=
    BI.equiv_iff.mp ⟨(pointsTo_share halves).1, (pointsTo_share halves).2⟩
  have h2 : (xAll c fullShare.right (X c) : sProp 𝕄) = iprop((((c : Thread nD τ).loc cc0_stg0_0) ↦[outRows c]{fullShare.right} (X c)) ∗ keptRows X c) :=
    BI.equiv_iff.mp ⟨(pointsTo_split_subset (Finset.subset_univ _)).1, (pointsTo_split_subset (Finset.subset_univ _)).2⟩
  rw [h1, h2]
  refine congrArg (fun P => iprop(xPts X c ∗ P ∗ keptRows X c)) ?_
  exact Ring.pointsTo_sub_blocks (ℓ := (c : Thread nD τ).loc cc0_stg0_0) (fun k : Fin 15 => ((xP c k).view.set : Finset S4096x256.Idx)) (x_disj c) _ rfl _

/-! ## The kernel's own semaphores -/

/-- The kernel's own semaphores, in order. -/
abbrev osem (i : Fin 160) : SemLoc sig := .dma (ownSem i)

/-- A family over them: the transfers', and the few not used. -/
theorem own_split (Φ : SemLoc sig → sProp 𝕄) : (bigSep Finset.univ fun i => Φ (osem i))
    = iprop((bigSep Finset.univ fun x : Bool × Tr => Φ (.dma (semOf x.1 x.2))) ∗ bigSep (Finset.univ \ Finset.univ.map ⟨ownNo, ownNo_inj⟩) fun i => Φ (osem i)) := by
  refine (bigSep_sdiff_split (Finset.subset_univ (Finset.univ.map ⟨ownNo, ownNo_inj⟩))).trans ?_
  rw [bigSep_map]
  refine congrArg (fun P => iprop(P ∗ _)) (bigSep_congr fun x _ => ?_)
  show Φ (.dma (ownSem (ownNo x))) = _
  rw [ownSem_ownNo]

theorem bigSep_bool_tr (Φ : Bool → Tr → sProp 𝕄) : (bigSep Finset.univ fun x : Bool × Tr => Φ x.1 x.2) = iprop((bigSep Finset.univ (Φ false)) ∗ bigSep Finset.univ (Φ true)) := by
  rw [bigSep_univ_prod, bigSep_univ_eq_bigSepL [false, true] (by decide) (by decide)]
  rfl

theorem bigSep_tr (Φ : Tr → sProp 𝕄) : bigSep Finset.univ Φ = iprop((bigSep Finset.univ fun k => Φ (.inl k)) ∗ bigSep Finset.univ fun p => Φ (.inr p)) :=
  bigSep_univ_sum Φ

theorem each {I : Type} [Fintype I] {Φ Ψ : I → sProp 𝕄} (h : ∀ i, BIBase.Entails (Φ i) (Ψ i)) : BIBase.Entails (bigSep Finset.univ Φ) (bigSep Finset.univ Ψ) :=
  bigSep_mono fun i _ => h i

/-! ## In and out -/

/-- The two buffers, cut: slot 0 of each, and the spots going out with the signals. -/
theorem bufs_in (f : (wgB : Ref sig .tc).ty.Contents (Elt F)) (g : (xgB : Ref sig .tc).ty.Contents (Elt F)) :
    iprop(wgAll c fullShare f ∗ xgAll c fullShare g) ⊢ iprop(slot0 Wt c f (fun q => 0 ≤ (o4 q).val) ∗ pieceX c 0 fullShare g ∗ bigSep Finset.univ fun j : Fin 15 => barPay (F := F) (nb c j) j) := by
  rw [← spots_out, wg_in, xg_in, bigSep_tr]
  unfold slot0
  rw [fam_all _ _ fun q => Nat.zero_le _]
  have hw : ∀ p : Fin 4 × Fin 15, BIBase.Entails (PROP := sProp 𝕄) (pieceW c (dstSlot p.1 p.2) p.1 fullShare f) (spot c (.inr p)) := fun p => by
    unfold spot; iintro H; iexists f; iexact H
  have hx : ∀ k : Fin 15, BIBase.Entails (PROP := sProp 𝕄) (pieceX c (sl k) fullShare g) (spot c (.inl k)) := fun k => by
    unfold spot; iintro H; iexists g; iexact H
  iintro ⟨⟨H1, H2⟩, H3, H4⟩
  isplitl [H1]; · iexact H1
  isplitl [H3]; · iexact H3
  isplitl [H4]
  · iapply (each hx); iexact H4
  · iapply (each hw); iexact H2

/-- What comes back at the end: the two buffers whole, the rows whole, the transfers' semaphores at zero. -/
theorem bufs_out (f : (wgB : Ref sig .tc).ty.Contents (Elt F)) (g : (xgB : Ref sig .tc).ty.Contents (Elt F)) :
    iprop(slot0 Wt c f (fun q => 4 ≤ (o4 q).val) ∗ pieceX c 0 fullShare g ∗ xPts X c ∗ keptRows X c ∗ ins X Wt c (wait 8 7 (cnt 15 0)) ∗ lefts Wt c 4 ∗ drs X Wt c (todo 15 ![15, 15, 15, 15]))
      ⊢ (iprop((∃ f, wgAll c fullShare f) ∗ (∃ f, xgAll c fullShare f) ∗ xAll c fullShare (X c) ∗ bigSep Finset.univ fun x : Bool × Tr => semVal (trCell c x.1 x.2) 0) : sProp 𝕄) := by
  unfold slot0 lefts ins drs
  have hb : ∀ q : Fin 4, 15 ≤ (![15, 15, 15, 15] : Fin 4 → ℕ) q := by decide
  have ho : ∀ q : Fin 4, ¬ 4 ≤ (o4 q).val := by decide
  rw [fam_none _ _ ho, fam_none _ _ none_wait, fam_none _ _ ho, fam_none _ _ (none_left _ hb), bigSep_bool_tr (fun b t => semVal (trCell c b t) 0), x_cut]
  unfold kept drained
  rw [bigSep_sep', bigSep_sep', bigSep_tr (lent X Wt c)]
  have hx : ∀ k : Fin 15, BIBase.Entails (PROP := sProp 𝕄) (pieceX c (sl k) fullShare (xgF X c)) iprop(∃ f, pieceX c (sl k) fullShare f) := fun k => by
    iintro H; iexists (xgF X c); iexact H
  iintro ⟨H0, Hg, Hx, Hk, ⟨HsR, HM⟩, HL, HsS, HlX, HlW⟩
  ihave HM' := (Entails.of_eq (bigSep_tr _)) $$ HM
  icases HM' with ⟨HX, HR⟩
  isplitl [H0 HR HL HlW]
  · iexists (wgF Wt c)
    have h : (wgAll c fullShare (wgF Wt c) : sProp 𝕄) = iprop(wgAll c fullShare.left (wgF Wt c) ∗ wgAll c fullShare.right (wgF Wt c)) :=
      BI.equiv_iff.mp ⟨(pointsTo_share halves).1, (pointsTo_share halves).2⟩
    rw [h, wg_out c fullShare.left, wg_in c fullShare.right]
    isplitl [HL HlW]
    · isplitl [HL]; · iexact HL
      iexact HlW
    isplitl [H0]; · iexact H0
    iexact HR
  isplitl [Hg HX]
  · iapply (xg_out c g)
    isplitl [Hg]; · iexists g; iexact Hg
    iapply (each hx); iexact HX
  isplitl [Hx Hk HlX]
  · isplitl [Hx]; · iexact Hx
    isplitl [HlX]; · iexact HlX
    iexact Hk
  isplitl [HsS]; · iexact HsS
  iexact HsR

end Cert.RingMM

end
-- ==== Proof.Body.lean ====
/-
  The proof data of the launch, and the body started from what the launch leaves it.
-/
module

public import proofs.«01_k».proof.Proof.Split
public import proofs.«01_k».proof.Proof.Gen.KernelIdeal.Frame
public import proofs.«01_k».proof.Proof.Gen.KernelIdeal.Points

@[expose] public section

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open scoped Classical

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What is staged -/

/-- The rows and the weights staged on each device, and the two scales. -/
def stX (d : Dev nD) : CX F := (win0_0.blk (0 : Fin 1)).view.read (Elt F) ((s₀ m ρ).mem ((d : Thread nD τ).loc main_arg0))
def stW (d : Dev nD) : CW F := (win0_1.blk (0 : Fin 1)).view.read (Elt F) ((s₀ m ρ).mem ((d : Thread nD τ).loc main_arg1))
def stSx (d : Dev nD) : CS F := (win0_2.blk (0 : Fin 1)).view.read (Elt F) ((s₀ m ρ).mem ((d : Thread nD τ).loc main_arg2))
def stSw (d : Dev nD) : CS F := (win0_3.blk (0 : Fin 1)).view.read (Elt F) ((s₀ m ρ).mem ((d : Thread nD τ).loc main_arg3))
/-- What device `d` leaves in its result. -/
def outAt (d : Dev nD) : (cc0_stg4_0 : Ref sig .tc).ty.Contents (Elt F) := gl (res (stX m ρ) (stW m ρ) d (zed (stSx m ρ d) (stSw m ρ d)))

/-! ## What a device starts from, and ends with -/

/-- The own semaphores not used. -/
def spare (c : Dev nD) : sProp 𝕄 := bigSep (Finset.univ \ Finset.univ.map ⟨ownNo, ownNo_inj⟩) fun i : Fin 160 => semVal ((c : Thread nD τ), osem i) 0

/-- The positions and the rights to signal. -/
def linear (c : Dev nD) : sProp 𝕄 :=
  iprop(atPos ER (barCell c) 0 ∅ 0 ∗ (bigSep Finset.univ fun t : Tr => armed c t) ∗ (bigSep Finset.univ fun t : Tr => atPos ER (trCell c true t) 0 ∅ 0)
    ∗ (bigSep Finset.univ fun j : Fin 15 => dutyTok ER (barCell (nb c j)) 0 j) ∗ spare c)
/-- What the others owe device `c`. -/
def dues (c : Dev nD) : sProp 𝕄 :=
  iprop(cred (tallyAt (barCell c) () 15) ∗ bigSep Finset.univ fun t : Tr => cred (tallyAt (trCell c true t) () (nOf t)))
def start (c : Dev nD) : sProp 𝕄 := iprop((∃ K, recs (stX m ρ) (stW m ρ) K) ∗ linear c ∗ dues c)

def Φ₀ (c : Dev nD) : sProp 𝕄 := iprop(start m ρ c ∗ (∃ f, xgAll c fullShare f) ∗ ∃ f, wgAll c fullShare f)
def Φ₁ (c : Dev nD) : sProp 𝕄 :=
  iprop(((∃ f, xgAll c fullShare f) ∗ ∃ f, wgAll c fullShare f) ∗ ((bigSep Finset.univ fun x : Bool × Tr => semVal (trCell c x.1 x.2) 0) ∗ spare c) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stX m ρ c
    | ⟨1, _⟩ => stW m ρ c
    | ⟨2, _⟩ => stSx m ρ c
    | ⟨3, _⟩ => stSw m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body -/

theorem cnt00 : (cnt 0 0 : Fin 4 → ℕ) = fun _ => 0 := funext fun q => cnt_zero 0 q

/-- The body, entered. -/
theorem enter_of (f : (wgB : Ref sig .tc).ty.Contents (Elt F)) (g : (xgB : Ref sig .tc).ty.Contents (Elt F)) (X : Dev nD → CX F) (Wt : Dev nD → CW F) (a b : CS F) :
    iprop((linear c ∗ dues c) ∗ (wgAll c fullShare f ∗ xgAll c fullShare g) ∗ OW c (O₀ c) ∗ xAll c fullShare (X c) ∗ wPts Wt c ∗ sxPts c a ∗ swPts c b ∗ (∃ f, oPts c f))
      ⊢ iprop(enter X Wt c f a b ∗ pieceX c 0 fullShare g ∗ keptRows X c ∗ spare c) := by
  unfold enter linear dues sigs rowsR lefts ins O₀ unsig awaited
  rw [fam_all _ _ fun j => Nat.zero_le _, fam_all _ _ fun j => Nat.zero_le _, fam_all _ _ all_wait, fam_all _ _ fun q => Nat.zero_le _, bigSep_sep', bigSep_sep', x_cut, cnt00]
  iintro ⟨⟨⟨HB, HA, HP, HT, HS⟩, HcB, HcT⟩, Hbufs, HO, ⟨Hx, Hrows, Hkept⟩, Hw, Ha, Hb, Ho⟩
  ihave Hbufs' := (bufs_in Wt c f g) $$ Hbufs
  icases Hbufs' with ⟨H0, Hg, Hpay⟩
  isplitr [Hg Hkept HS]
  · isplitl [HT Hpay HO]
    · isplitl [HT Hpay]
      · isplitl [HT]; · iexact HT
        iexact Hpay
      iexact HO
    isplitl [HB HcB]
    · isplitl [HB]; · iexact HB
      iexact HcB
    isplitl [HA]; · iexact HA
    isplitl [Ha]; · iexact Ha
    isplitl [Hb]; · iexact Hb
    isplitl [Hw]; · iexact Hw
    isplitl [H0]; · iexact H0
    isplitl [Hrows]; · iexact Hrows
    isplitl [Hx]; · iexact Hx
    isplitl [Ho]; · iexact Ho
    isplitl [HP HcT]
    · isplitl [HP]; · iexact HP
      iexact HcT
    ihave H := (show (iprop(emp) : sProp 𝕄) ⊢ bigSep Finset.univ fun _ : Fin 4 => iprop(emp) from Entails.of_eq (bigSep_emp_const _).symm) $$ []
    · iempintro
    iexact H
  isplitl [Hg]; · iexact Hg
  isplitl [Hkept]; · iexact Hkept
  iexact HS

theorem leave_to (f : (wgB : Ref sig .tc).ty.Contents (Elt F)) (g : (xgB : Ref sig .tc).ty.Contents (Elt F)) (X : Dev nD → CX F) (Wt : Dev nD → CW F) (a b : CS F) :
    iprop(leave X Wt c f a b ∗ pieceX c 0 fullShare g ∗ keptRows X c ∗ spare c)
      ⊢ (iprop(Φ₁ c ∗ OW c 0 ∗ xAll c fullShare (X c) ∗ wPts Wt c ∗ sxPts c a ∗ swPts c b ∗ oPts c (gl (res X Wt c (zed a b)))) : sProp 𝕄) := by
  unfold leave post Φ₁
  iintro ⟨⟨HB, Ha, Hb, Hw, H0, -, Hx, Ho, HI, HL, HD, HO⟩, Hg, Hkept, HS⟩
  ihave H := (bufs_out X Wt c f g) $$ [H0 Hg Hx Hkept HI HL HD]
  · isplitl [H0]; · iexact H0
    isplitl [Hg]; · iexact Hg
    isplitl [Hx]; · iexact Hx
    isplitl [Hkept]; · iexact Hkept
    isplitl [HI]; · iexact HI
    isplitl [HL]; · iexact HL
    iexact HD
  icases H with ⟨H1, H2, H3, H4⟩
  isplitl [H1 H2 H4 HS HB]
  · isplitl [H1 H2]
    · isplitl [H2]; · iexact H2
      iexact H1
    isplitl [H4 HS]
    · isplitl [H4]; · iexact H4
      iexact HS
    iexact HB
  isplitl [HO]; · iexact HO
  isplitl [H3]; · iexact H3
  isplitl [Hw]; · iexact Hw
  isplitl [Ha]; · iexact Ha
  isplitl [Hb]; · iexact Hb
  iexact Ho

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) :=
  Idealize.ShloMosaic.owns_whole_eq (c : Thread nD τ) b fullShare X

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's obligation, spelt out: entered -/
def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
/-- and left. -/
def bodyPost (c : Dev nD) : sProp 𝕄 :=
  iprop(Φ₁ c ∗ (dats m ρ 0 c).owesAt () t0_0.succ ∗ stg c cc0_stg0_0 (stX m ρ c) ∗ stg c cc0_stg1_0 (stW m ρ c) ∗ stg c cc0_stg2_0 (stSx m ρ c) ∗ stg c cc0_stg3_0 (stSw m ρ c)
    ∗ stg c cc0_stg4_0 (outAt m ρ c))

theorem sound_body : bodyPre m ρ c ⊢ wp frame (wpE (defs₀ (F := F)) 𝒱₀ (c : Thread nD τ) none) Set.univ prog fun _ => bodyPost m ρ c := by
  unfold bodyPre Φ₀ start
  iintro ⟨⟨⟨⟨%K, #HR⟩, Hlin, Hdue⟩, ⟨%g, Hg⟩, ⟨%f, Hf⟩⟩, Ho, ⟨%d0, %g0, %e0, H0⟩, ⟨%d1, %g1, %e1, H1⟩, ⟨%d2, %g2, %e2, H2⟩, ⟨%d3, %g3, %e3, H3⟩, ⟨%d4, %g4, %e4, H4⟩⟩
  have h0 : g0 = stX m ρ c := by rw [e0]; unfold Dat.before; rw [if_pos (fetch0_0 t0_0)]; rfl
  have h1 : g1 = stW m ρ c := by rw [e1]; unfold Dat.before; rw [if_pos (fetch0_1 t0_0)]; rfl
  have h2 : g2 = stSx m ρ c := by rw [e2]; unfold Dat.before; rw [if_pos (fetch0_2 t0_0)]; rfl
  have h3 : g3 = stSw m ρ c := by rw [e3]; unfold Dat.before; rw [if_pos (fetch0_3 t0_0)]; rfl
  subst h0 h1 h2 h3
  unfold Dat.owesAt Pipeline.owesWithin
  rw [show (dats m ρ 0 c).owed t0_0.castSucc = O₀ c from rfl]
  icases Ho with ⟨%W, -, HO⟩
  have hT := T.frame iprop(pieceX c 0 fullShare g ∗ keptRows (stX m ρ) c ∗ spare c) (prog_triple (stX m ρ) (stW m ρ) K c f (stSx m ρ c) (stSw m ρ c))
  have hT' := T.conseq (enter_of c f g (stX m ρ) (stW m ρ) (stSx m ρ c) (stSw m ρ c)) hT (leave_to c f g (stX m ρ) (stW m ρ) (stSx m ρ c) (stSw m ρ c))
  unfold T at hT'
  have hpost : BIBase.Entails (PROP := sProp 𝕄) (iprop(Φ₁ c ∗ OW c 0 ∗ xAll c fullShare (stX m ρ c) ∗ wPts (stW m ρ) c ∗ sxPts c (stSx m ρ c) ∗ swPts c (stSw m ρ c) ∗ oPts c (outAt m ρ c))) (bodyPost m ρ c) := by
    unfold bodyPost Dat.owesAt Pipeline.owesWithin OW sxPts swPts
    rw [show (dats m ρ 0 c).owed t0_0.succ = 0 from rfl]
    iintro ⟨HΦ, ⟨%W, HO⟩, H0, H1, H2, H3, H4⟩
    isplitl [HΦ]; · iexact HΦ
    isplitl [HO]
    · iexists W
      isplitr; · ipureintro; exact fun _ _ => Or.inl trivial
      iexact HO
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    isplitl [H3]
    · iexists _; isplitr; · (ipureintro; rfl)
      iexact H3
    iexists _; isplitr; · (ipureintro; rfl)
    iexact H4
  have hall := BIBase.Entails.trans hT' (wp_mono _ _ _ fun _ => hpost)
  iapply hall
  isplitr; · iexact HR
  isplitl [Hlin Hdue]
  · isplitl [Hlin]; · iexact Hlin
    iexact Hdue
  isplitl [Hf Hg]
  · isplitl [Hf]; · iexact Hf
    iexact Hg
  isplitl [HO]
  · unfold OW; iexists W; iexact HO
  isplitl [H0]; · iexact H0
  isplitl [H1]; · iexact H1
  unfold sxPts swPts
  isplitl [H2]; · iexact H2
  isplitl [H3]; · iexact H3
  iexists g4; iexact H4

set_option maxRecDepth 100000 in
/-- The body obligation of device `c`. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) xM (Memref.isWhole_whole _) wM (Memref.isWhole_whole _) sxM (Memref.isWhole_whole _) swM (Memref.isWhole_whole _) oM (Memref.isWhole_whole _)
      xgM (Memref.isWhole_whole _) wgM (Memref.isWhole_whole _) cc0_scratch2 cc0_scratch3 cc0_scratch4 cc0_scratch5 cc0_scratch6 cc0_scratch7 cc0_scratch8 cc0_scratch9 cc0_scratch10 cc0_scratch11)
      (fun _ => bodyPost m ρ c)
  rw [body_eq]
  exact sound_body m ρ c

end Cert.RingMM

end
-- ==== Proof.Launch.lean ====
/-
  The launch: the cells opened, the rights dealt, the dues counted; and the run of the whole mesh.
-/
module

public import proofs.«01_k».proof.Proof.Body
public import Idealize.ShloMosaic.Lib.Pipeline.CollectiveSegs

@[expose] public section

noncomputable section

namespace Cert.RingMM

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat cellOf)
open scoped Classical

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-! ## Cells and rights, as minted -/

theorem cellAt_inj : Function.Injective cellAt := by
  rintro ⟨c, o⟩ ⟨c', o'⟩ h
  have h1 : c = c' := by
    have e : (cellAt (c, o)).1.1 = (cellAt (c', o')).1.1 := by rw [h]
    cases o <;> cases o' <;> exact e
  subst h1
  cases o with
  | none =>
    cases o' with
    | none => rfl
    | some y => exact absurd (congrArg Prod.snd h) (fun e => by cases e)
  | some x =>
    cases o' with
    | none => exact absurd (congrArg Prod.snd h) (fun e => by cases e)
    | some y =>
      have e : (SemLoc.dma (semOf x.1 x.2) : SemLoc sig) = .dma (semOf y.1 y.2) := congrArg Prod.snd h
      have e' : semOf x.1 x.2 = semOf y.1 y.2 := by injection e
      rw [semOf_inj e']

def ringCells : Finset (GSem nD τ sig) := Finset.univ.map ⟨cellAt, cellAt_inj⟩

/-- A device's own rights: the fifteen of its barrier, the one of each other cell. -/
abbrev TI : Type := Fin 15 ⊕ (Bool × Tr)
def tokOf : Dev nD × TI → GSem nD τ sig × ℕ × Fin 15
  | (c, .inl j) => (barCell c, 0, j)
  | (c, .inr x) => (trCell c x.1 x.2, 0, 0)
theorem tokOf_inj : Function.Injective tokOf := by
  rintro ⟨c, o⟩ ⟨c', o'⟩ h
  cases o with
  | inl j =>
    cases o' with
    | inl j' =>
      have e : barCell c = barCell c' := congrArg Prod.fst h
      have e2 : j = j' := congrArg (fun x => x.2.2) h
      have e1 : c = c' := congrArg (fun g : GSem nD τ sig => g.1.1) e
      rw [e1, e2]
    | inr y =>
      have e : barCell c = trCell c' y.1 y.2 := congrArg Prod.fst h
      exact absurd (congrArg Prod.snd e) (fun e => by cases e)
  | inr x =>
    cases o' with
    | inl j' =>
      have e : trCell c x.1 x.2 = barCell c' := congrArg Prod.fst h
      exact absurd (congrArg Prod.snd e) (fun e => by cases e)
    | inr y =>
      have e : cellAt (c, some x) = cellAt (c', some y) := congrArg Prod.fst h
      have e' := cellAt_inj e
      injection e' with e1 e2
      injection e2 with e2
      rw [e1, e2]
def ringToks : Finset (GSem nD τ sig × ℕ × Fin 15) := Finset.univ.map ⟨tokOf, tokOf_inj⟩

def u₀ : UU :=
  (initOf (Pipeline.cells cfgs cellOf_inj) (Pipeline.launchToks cfgs cellOf_inj), initOf ringCells ringToks)

/-- The rights of device `c`'s own cells. -/
def toks (c : Dev nD) : sProp 𝕄 :=
  iprop((bigSep Finset.univ fun j : Fin 15 => dutyTok ER (barCell c) 0 j)
    ∗ (bigSep Finset.univ fun t : Tr => dutyTok ER (trCell c false t) 0 0) ∗ bigSep Finset.univ fun t : Tr => dutyTok ER (trCell c true t) 0 0)

abbrev CO : Type := Option (Bool × Tr)
abbrev rd : Rounds.Schedule (GSem nD τ sig) (Fin 15) 𝕄 := ringRd (stX m ρ) (stW m ρ)

/-- What the launch deals device `c`. -/
def G (c : Dev nD) : sProp 𝕄 :=
  iprop((bigSep Finset.univ fun k : CO => roundState ER (rd m ρ) (cellAt (c, k)) 0)
    ∗ (bigSep Finset.univ fun k : CO => iprop(atPos ER (cellAt (c, k)) 0 ∅ 0 ∗ reached ER (cellAt (c, k)) 0)) ∗ toks c)

/-- The invariants and marks of every cell. -/
def marks (K : CI → ℕ) : sProp 𝕄 :=
  bigSep Finset.univ fun p : CI => iprop(cellInv ER (rd m ρ) (K p) (cellAt p) ∗ reached ER (cellAt p) 0)
instance marks_persistent (K : CI → ℕ) : BI.Persistent (marks m ρ K) := by unfold marks; infer_instance

/-- What it has once all cells are open. -/
def G' (c : Dev nD) : sProp 𝕄 := iprop((∃ K, marks m ρ K) ∗ linear c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CO => Φ (cellAt (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [← bigSep_bool_tr (fun b t => dutyTok ER (trCell c b t) 0 0)]
    exact bigSep_univ_sum _
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells opened -/

theorem bigSep_opt {A : Type} [Fintype A] [DecidableEq A] (Φ : Option A → sProp 𝕄) :
    bigSep Finset.univ Φ = iprop(Φ none ∗ bigSep Finset.univ fun a => Φ (some a)) := by
  have e : (Finset.univ : Finset (Option A)) = insert none (Finset.univ.map ⟨some, Option.some_injective A⟩) := by
    ext o
    constructor
    · rintro -
      cases o with
      | none => exact Finset.mem_insert_self _ _
      | some a => exact Finset.mem_insert_of_mem (Finset.mem_map.mpr ⟨a, Finset.mem_univ _, rfl⟩)
    · intro _; exact Finset.mem_univ _
  have hn : (none : Option A) ∉ Finset.univ.map ⟨some, Option.some_injective A⟩ := fun h => by
    obtain ⟨a, -, ha⟩ := Finset.mem_map.mp h
    cases ha
  rw [e, bigSep_insert hn, bigSep_map]
  rfl

/-- The own semaphores: the transfers', the spare ones. -/
theorem ownSems0_eq (c : Dev nD) : (Pipeline.ownSems0 (Ix := Unit) (Name := ℕ) (U := UU) (Lvl := ℕ) (Val := Elt F) (τ := τ) osem c : sProp 𝕄)
    = iprop((bigSep Finset.univ fun x : Bool × Tr => semVal (trCell c x.1 x.2) 0) ∗ spare c) :=
  own_split fun sm => semVal ((c : Thread nD τ), sm) 0
/-- The barrier semaphore is the one that is nobody's own. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CO => iprop(∃ κ : ℕ, cellInv ER (rd m ρ) κ (cellAt (c, k))))
          ∗ (bigSep Finset.univ fun k : CO => iprop(atPos ER (cellAt (c, k)) 0 ∅ 0 ∗ reached ER (cellAt (c, k)) 0)) ∗ toks c ∗ spare c) := by
  unfold G
  rw [ownSems0_eq, unscopedSems0_eq]
  iintro ⟨⟨Hos, Hsp⟩, Hus, Hst, Hat, Htok⟩
  ihave Hv := (Entails.of_eq (bigSep_opt fun k : CO => semVal (cellAt (c, k)) 0).symm) $$ [Hos Hus]
  · isplitl [Hus]; · iexact Hus
    iexact Hos
  imod (show iprop((bigSep Finset.univ fun k : CO => semVal (cellAt (c, k)) 0) ∗ bigSep Finset.univ fun k : CO => roundState ER (rd m ρ) (cellAt (c, k)) 0)
      ⊢ (|={Set.univ}=> bigSep Finset.univ fun k : CO => iprop(∃ κ : ℕ, cellInv ER (rd m ρ) κ (cellAt (c, k))) : sProp 𝕄) from by
        rw [← bigSep_sep']
        exact (bigSep_mono fun k _ => (Rounds.body_intro ER (rd m ρ) (cellAt (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hsp

/-- The rights dealt out: a barrier's to its signallers, an arrival's to its sender. -/
def dealt (c : Dev nD) : sProp 𝕄 :=
  iprop((bigSep Finset.univ fun j : Fin 15 => dutyTok ER (barCell (nb c j)) 0 j)
    ∗ (bigSep Finset.univ fun t : Tr => dutyTok ER (trCell c false t) 0 0) ∗ bigSep Finset.univ fun t : Tr => dutyTok ER (trCell (tgt c t) true t) 0 0)

theorem toks_around : (bigSep Finset.univ fun c : Dev nD => (toks c : sProp 𝕄)) ⊢ bigSep Finset.univ fun c : Dev nD => dealt c := by
  have h1 : (bigSep Finset.univ fun c : Dev nD => bigSep Finset.univ fun j : Fin 15 => (dutyTok ER (barCell c) 0 j : sProp 𝕄))
      = bigSep Finset.univ fun c : Dev nD => bigSep Finset.univ fun j : Fin 15 => dutyTok ER (barCell (nb c j)) 0 j := by
    rw [bigSep_univ_comm, bigSep_univ_comm (fun (c : Dev nD) (j : Fin 15) => (dutyTok ER (barCell (nb c j)) 0 j : sProp 𝕄))]
    exact bigSep_congr fun j _ => bigSep_univ_equiv (nbEquiv j) fun c : Dev nD => (dutyTok ER (barCell c) 0 j : sProp 𝕄)
  have h2 : (bigSep Finset.univ fun c : Dev nD => bigSep Finset.univ fun t : Tr => (dutyTok ER (trCell c true t) 0 0 : sProp 𝕄))
      = bigSep Finset.univ fun c : Dev nD => bigSep Finset.univ fun t : Tr => dutyTok ER (trCell (tgt c t) true t) 0 0 := by
    rw [bigSep_univ_comm, bigSep_univ_comm (fun (c : Dev nD) (t : Tr) => (dutyTok ER (trCell (tgt c t) true t) 0 0 : sProp 𝕄))]
    exact bigSep_congr fun t _ => bigSep_univ_equiv (aftEquiv (shf t)) fun c : Dev nD => (dutyTok ER (trCell c true t) 0 0 : sProp 𝕄)
  unfold toks dealt
  rw [bigSep_sep', bigSep_sep', bigSep_sep', bigSep_sep', h1, h2]

theorem linear_intro (c : Dev nD) :
    iprop((bigSep Finset.univ fun k : CO => atPos ER (cellAt (c, k)) 0 ∅ 0) ∗ dealt c ∗ spare c) ⊢ (linear c : sProp 𝕄) := by
  have hat : BIBase.Entails (PROP := sProp 𝕄) (bigSep Finset.univ fun x : Bool × Tr => atPos ER (cellAt (c, some x)) 0 ∅ 0)
      iprop((bigSep Finset.univ fun t : Tr => atPos ER (trCell c false t) 0 ∅ 0) ∗ bigSep Finset.univ fun t : Tr => atPos ER (trCell c true t) 0 ∅ 0) :=
    Entails.of_eq (bigSep_bool_tr fun b t => atPos ER (trCell c b t) 0 ∅ 0)
  unfold linear dealt armed
  rw [bigSep_opt, bigSep_sep', bigSep_sep']
  iintro ⟨⟨HB, Hat⟩, ⟨H1, H2, H3⟩, HS⟩
  ihave Hat' := hat $$ Hat
  icases Hat' with ⟨HF, HT⟩
  isplitl [HB]; · iexact HB
  isplitl [HF H2 H3]
  · isplitl [HF]; · iexact HF
    isplitl [H2]; · iexact H2
    iexact H3
  isplitl [HT]; · iexact HT
  isplitl [H1]; · iexact H1
  iexact HS

theorem with_persistent {I : Type} [Fintype I] [DecidableEq I] {R : sProp 𝕄} [BI.Persistent R] {Φ Ψ : I → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun k : CO => iprop(∃ κ : ℕ, cellInv ER (rd m ρ) κ (cellAt (c, k))))
          ∗ (bigSep Finset.univ fun k : CO => iprop(atPos ER (cellAt (c, k)) 0 ∅ 0 ∗ reached ER (cellAt (c, k)) 0)) ∗ toks c ∗ spare c) : sProp 𝕄)
      ⊢ bigSep Finset.univ (G' m ρ) := by
  rw [bigSep_sep', bigSep_sep', bigSep_sep', ← bigSep_univ_prod (fun p : CI => iprop(∃ κ : ℕ, cellInv ER (rd m ρ) κ (cellAt p))),
    bigSep_congr (s := Finset.univ) (fun (c : Dev nD) _ => bigSep_sep' Finset.univ (fun k : CO => (atPos ER (cellAt (c, k)) 0 ∅ 0 : sProp 𝕄)) (fun k => reached ER (cellAt (c, k)) 0)),
    bigSep_sep', ← bigSep_univ_prod (fun p : CI => (reached ER (cellAt p) 0 : sProp 𝕄))]
  iintro ⟨HI, ⟨Hat, #HR⟩, Htok, Hsp⟩
  ihave HK := (BI.bigSep_exists_pi Finset.univ (fun (p : CI) (κ : ℕ) => (cellInv ER (rd m ρ) κ (cellAt p) : sProp 𝕄))) $$ HI
  icases HK with ⟨%K, #HI⟩
  ihave Htk := (toks_around (F := F)) $$ Htok
  have hM : iprop((bigSep Finset.univ fun p : CI => cellInv ER (rd m ρ) (K p) (cellAt p)) ∗ bigSep Finset.univ fun p : CI => reached ER (cellAt p) 0) ⊢ marks m ρ K := by
    unfold marks; rw [bigSep_sep']
  have hG : ∀ c : Dev nD, iprop(marks m ρ K ∗ linear c) ⊢ G' m ρ c := fun c => by
    unfold G'
    iintro ⟨H1, H2⟩
    isplitl [H1]; · iexists K; iexact H1
    iexact H2
  iapply (with_persistent (R := marks m ρ K) hG)
  isplitr
  · iapply hM
    isplitr; · iexact HI
    iexact HR
  · have hL : iprop((bigSep Finset.univ fun c : Dev nD => bigSep Finset.univ fun k : CO => atPos ER (cellAt (c, k)) 0 ∅ 0) ∗ (bigSep Finset.univ fun c : Dev nD => dealt c) ∗ bigSep Finset.univ fun c : Dev nD => spare c)
        ⊢ (bigSep Finset.univ fun c : Dev nD => linear c : sProp 𝕄) := by
      rw [← bigSep_sep', ← bigSep_sep']
      exact bigSep_mono fun c _ => linear_intro c
    iapply hL
    isplitl [Hat]; · iexact Hat
    isplitl [Htk]; · iexact Htk
    iexact Hsp

/-- All cells of the mesh opened at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The dues, counted -/

theorem tally_other {g g' : GSem nD τ sig} (n : ℕ) (h : g ≠ g') : (tallyAt g' () n : CellTallies nD τ sig Unit) g () = 0 := by
  rw [tallyAt_apply, if_neg fun h' => h h'.1]
theorem tally_self (g : GSem nD τ sig) (n : ℕ) : (tallyAt g () n : CellTallies nD τ sig Unit) g () = n := by
  rw [tallyAt_apply, if_pos ⟨rfl, rfl⟩]

/-- Reading a sum of tallies at a cell. -/
theorem sum_tally {I : Type} [DecidableEq I] (s : Finset I) (f : I → CellTallies nD τ sig Unit) (g : GSem nD τ sig) : (∑ i ∈ s, f i) g () = ∑ i ∈ s, f i g () := by
  induction s using Finset.induction_on with
  | empty => rfl
  | insert i s hi ih => rw [Finset.sum_insert hi, Finset.sum_insert hi, Pi.add_apply, Finsupp.add_apply, ih]

theorem oweT_all (d : Dev nD) (g : GSem nD τ sig) : oweT d (todo 0 fun _ => 0) g () = ∑ t : Tr, tallyAt (trCell (tgt d t) true t) () (nOf t) g () := by
  unfold oweT
  rw [sum_tally, Finset.filter_true_of_mem fun t _ => ?_]
  rcases t with k | x
  · exact Nat.zero_le _
  · exact Nat.zero_le _
theorem oweB_all (d : Dev nD) (g : GSem nD τ sig) : oweB d 0 g () = ∑ j : Fin 15, tallyAt (barCell (nb d j)) () 1 g () := by
  unfold oweB
  rw [sum_tally, Finset.filter_true_of_mem fun j _ => Nat.zero_le _]

/-- A due that goes to one device each, whichever the permutation, comes in once everywhere. -/
theorem due_in (e : Dev nD ≃ Dev nD) (f : Dev nD → GSem nD τ sig) (hf : ∀ a b, a ≠ b → f a ≠ f b) (n : ℕ) (c : Dev nD) :
    ∑ d : Dev nD, (tallyAt (f (e d)) () n : CellTallies nD τ sig Unit) (f c) () = n := by
  rw [Equiv.sum_comp e fun d => (tallyAt (f d) () n : CellTallies nD τ sig Unit) (f c) (),
    Finset.sum_eq_single c (fun d _ hd => tally_other n (hf _ _ (Ne.symm hd))) (fun h => absurd (Finset.mem_univ _) h), tally_self]

theorem bar_ne (a b : Dev nD) (h : a ≠ b) : barCell a ≠ barCell b := fun e => h (congrArg (fun g : GSem nD τ sig => g.1.1) e)
theorem tr_ne (t : Tr) (a b : Dev nD) (h : a ≠ b) : trCell a true t ≠ trCell b true t := fun e => h (congrArg (fun g : GSem nD τ sig => g.1.1) e)
theorem tr_ne_bar (a b : Dev nD) (t : Tr) : trCell a true t ≠ barCell b := fun e => by
  have := congrArg Prod.snd e; cases this
theorem tr_ne_tr (a b : Dev nD) (t t' : Tr) (h : t ≠ t') : trCell a true t ≠ trCell b true t' := fun e => h (by
  have e1 : (SemLoc.dma (semOf true t) : SemLoc sig) = .dma (semOf true t') := congrArg Prod.snd e
  have e2 : semOf true t = semOf true t' := by injection e1
  have := semOf_inj (x := (true, t)) (y := (true, t')) e2
  injection this)

theorem owed_bar (c : Dev nD) : ∑ d : Dev nD, O₀ d (barCell c) () = 15 := by
  have h : ∀ d : Dev nD, O₀ d (barCell c) () = ∑ j : Fin 15, tallyAt (barCell (nb d j)) () 1 (barCell c) () := fun d => by
    unfold O₀
    rw [Pi.add_apply, Finsupp.add_apply, oweT_all, oweB_all, Finset.sum_eq_zero fun t _ => tally_other _ (tr_ne_bar _ _ _).symm, Nat.zero_add]
  have hj : ∀ j : Fin 15, ∑ d : Dev nD, (tallyAt (barCell (nb d j)) () 1 : CellTallies nD τ sig Unit) (barCell c) () = 1 :=
    fun j => due_in (nbEquiv j) barCell bar_ne 1 c
  rw [Finset.sum_congr rfl fun d _ => h d, Finset.sum_comm, Finset.sum_congr rfl fun j _ => hj j]
  rfl
theorem owed_tr (c : Dev nD) (t : Tr) : ∑ d : Dev nD, O₀ d (trCell c true t) () = nOf t := by
  have h : ∀ d : Dev nD, O₀ d (trCell c true t) () = tallyAt (trCell (tgt d t) true t) () (nOf t) (trCell c true t) () := fun d => by
    unfold O₀
    rw [Pi.add_apply, Finsupp.add_apply, oweT_all, oweB_all, Finset.sum_eq_zero (fun j _ => tally_other _ (tr_ne_bar _ _ _)), Nat.add_zero]
    exact Finset.sum_eq_single t (fun t' _ ht => tally_other _ (tr_ne_tr _ _ _ _ (Ne.symm ht))) (fun h => absurd (Finset.mem_univ _) h)
  rw [Finset.sum_congr rfl fun d _ => h d]
  exact due_in (aftEquiv (shf t)) (fun d => trCell d true t) (tr_ne t) (nOf t) c

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem creds (c : Dev nD) : (Pipeline.launchCred O₀ c : sProp 𝕄) ⊢ dues c := by
  unfold Pipeline.launchCred dues
  rw [bigSep_univ_at _ (SemLoc.reg barS), launch_at _ 15 (owed_bar c)]
  refine sep_mono_right ?_
  have hi : Function.Injective fun t : Tr => (SemLoc.dma (semOf true t) : SemLoc sig) := fun t t' e => by
    have e2 : semOf true t = semOf true t' := by injection e
    have := semOf_inj (x := (true, t)) (y := (true, t')) e2
    injection this
  have hs : (Finset.univ.map ⟨_, hi⟩ : Finset (SemLoc sig)) ⊆ Finset.univ.erase (SemLoc.reg barS) := fun sm h => by
    obtain ⟨t, -, rfl⟩ := Finset.mem_map.mp h
    exact Finset.mem_erase.mpr ⟨fun e => (by cases e), Finset.mem_univ _⟩
  refine (Entails.of_eq (bigSep_sdiff_split hs)).trans ?_
  rw [bigSep_map]
  have hc : ∀ t : Tr, (cred (tallyOn ((c : Thread nD τ), SemLoc.dma (semOf true t)) (launchCredit (Pipeline.owing O₀) 0 ((c : Thread nD τ), SemLoc.dma (semOf true t)))) : sProp 𝕄)
      = cred (tallyAt (trCell c true t) () (nOf t)) := fun t => by rw [launch_at _ _ (owed_tr c t)]
  refine (sep_mono_left (Entails.of_eq (bigSep_congr fun t _ => hc t))).trans ?_
  iintro ⟨H, -⟩
  iexact H

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start
  iintro ⟨-, Hlev, Hcr, -, ⟨%K, HK⟩, HL⟩
  ihave Hc := (creds (F := F) c) $$ Hcr
  imodintro
  isplitl
  · isplitl [HK Hlev]
    · iexists K
      unfold recs marks
      isplitl [HK]; · iexact HK
      iexact Hlev
    isplitl [HL]; · iexact HL
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H1, H2⟩
  isplitl [Hs]; · iexact Hs
  isplitl [H1]; · iexact H1
  iexact H2

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, Hs, HB⟩
  isplitl [HB]; · iexact HB
  isplitl [Hs]; · iexact Hs
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters, for any float values: every weakly fair run of the mesh ends, with every window's array at the computed
    contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingMM

end
-- ==== Proof.Frames.lean ====
/-
  The frames: the kernel, at either reading, and the reference.
-/
module

public import proofs.«01_k».proof.Proof.Launch
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame

@[expose] public section

noncomputable section

namespace Cert.RingMM

open Idealize.ShloMosaic Idealize.ShloMosaic.TcCoe Idealize.SL.Sem

section
open Cert.KernelIdeal Cert.KernelIdeal.Gen
variable {F : FTy → Type} [FloatOps F] (m : (ℓ : Loc nD τ sig) → Buf (Elt F) ℓ) (ρ : Dev nD → PrngReg)

/-- An input's array is never written back. -/
theorem arr_kept (c : Dev nD) (w : Fin cfg0.W) (h : (cfg0.win w).isOut = false) : finalA m ρ c w = m ((cfg0.win w).arr.view.loc (c : Thread nD τ)) :=
  ((dats m ρ 0 c).arrAt_in w h _).trans rfl

/-- The run, said of the arguments and the result. -/
theorem run_args : θ_run defs (onTc (τ := τ) (main (F := F))) ⟨m, fun _ => 0, ρ⟩ (fun r => (∀ c : Dev nD,
      r.2.mem ((c.tc : Thread nD τ).loc main_v1) = finalA m ρ c 4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨h.1 c 4, (h.1 c 0).trans (arr_kept m ρ c 0 rfl), (h.1 c 1).trans (arr_kept m ρ c 1 rfl),
    (h.1 c 2).trans (arr_kept m ρ c 2 rfl), (h.1 c 3).trans (arr_kept m ρ c 3 rfl)⟩, h.2⟩) (run_main m ρ)
end

/-- The frame of the kernel at the ideal reading. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_args m ρ)

/-- The kernel as printed and its ideal reading are one text: the same statement of either. -/
theorem one_text : Cert.quiescent_Kernel (hKernel := Cert.Kernel.Gen.facts) =
    (∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)) := by chain_rfl

/-- The frame of the kernel as printed. -/
theorem frame_bits : Cert.quiescent_Kernel (hKernel := Cert.Kernel.Gen.facts) := by
  rw [one_text]
  exact fun m ρ _ => (θ_run Cert.KernelIdeal.defs _ _).mono (fun _ h => ⟨fun c => (h.1 c).2, h.2⟩) (run_args (F := Bits) m ρ)

/-- The frame of the reference. -/
theorem frame_ref : Cert.quiescent_ReferenceIdeal (hReferenceIdeal := Cert.ReferenceIdeal.Gen.facts) := fun m ρ _ => Cert.ReferenceIdeal.Gen.frame m ρ

end Cert.RingMM

end
-- ==== Proof.RefRun.lean ====
/-
  The reference's result array, as one function of its argument arrays.
-/
module

public import proofs.«01_k».proof.Proof.Gen.ReferenceIdeal.Value
public import Idealize.ShloMosaic.Lib.MatmulPlain
public import Idealize.ShloMosaic.Lib.Pipeline.ValueKit

@[expose] public section

noncomputable section

namespace Cert.RingMM.Ref

open Cert.ReferenceIdeal Cert.ReferenceIdeal.Gen Cert.ReferenceIdeal.Value Idealize.ShloMosaic Idealize.ShloMosaic.TcCoe Idealize.SL.Sem

variable {F : FTy → Type} [FloatOps F]

/-- The one place of a one-element array. -/
def at0 : S1.Idx := ValueIdx.ix1 (0 : Fin 1)

/-- A one-element array has one place. -/
theorem at0_eq (i : S1.Idx) : i = at0 := by
  funext (a : Fin 1)
  obtain rfl : a = 0 := Subsingleton.elim _ _
  have h1 : (i 0).val < 1 := (i 0).isLt
  exact Fin.ext ((show (i 0).val = 0 by omega).trans rfl)

/-- The product of the arrays, times the product of the two scales, cut off at zero. -/
def refVal (x : Vec F S4096x4096 .fp8e5m2) (w : Vec F S4096x8192 .fp8e5m2) (a b : Vec F S1 .f32) : Vec F S4096x8192 .f32 :=
  k0_pay1 x w (a at0) (b at0)

variable (m : (ℓ : Loc nD τ sig) → Buf (Elt F) ℓ)

/-- The one block of every window starts at the array's start. -/
theorem idx_zero : ∀ (w : Fin cfg0.W) (t : Fin cfg0.N) a, (cfg0.win w).index t a = 0 := by decide +kernel

/-- What a window's block reads of each argument's array is the whole argument. -/
theorem whole_in (c : Dev nD) (t : Fin cfg0.N) :
    (iblk m c 0 t = m ((c : Thread nD τ).loc main_arg0) ∧ iblk m c 1 t = m ((c : Thread nD τ).loc main_arg1))
      ∧ iblk m c 2 t = m ((c : Thread nD τ).loc main_arg2) ∧ iblk m c 3 t = m ((c : Thread nD τ).loc main_arg3) := by
  have he : ∀ w t j a, (((cfg0.win w).rect t).emb j a : Nat) = j a := fun w t j a => (cfg0.win w).rect_emb_val_of_index_zero t a (idx_zero w t a) j
  refine ⟨⟨?_, ?_⟩, ?_, ?_⟩
  · exact funext fun j => congrArg (m _) (funext fun a => Fin.ext (he 0 t j a))
  · exact funext fun j => congrArg (m _) (funext fun a => Fin.ext (he 1 t j a))
  · exact funext fun j => congrArg (m _) (funext fun a => Fin.ext (he 2 t j a))
  · exact funext fun j => congrArg (m _) (funext fun a => Fin.ext (he 3 t j a))

/-- The result's array after the run. -/
theorem final (c : Dev nD) : (dats m 0 c).arrAt 4 cfg0.N
    = refVal (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨⟨e0, e1⟩, e2, e3⟩ := whole_in m c t
  blk_simp
  rw [after0_4]
  unfold outsAt0
  frame_out
  rw [e0, e1, e2, e3]
  exact (congrFun (congr (congr (congr (congrArg k0_pay1 ((hs0_0 t).read_unread _)) ((hs0_1 t).read_unread _))
      ((congrFun ((hs0_2 t).read_unread _) _).trans (congrArg _ (at0_eq _)))) ((congrFun ((hs0_3 t).read_unread _) _).trans (congrArg _ (at0_eq _)))) y).trans
    (congrArg (refVal _ _ _ _) (funext fun a => Fin.ext ((cfg0.win 4).rect_emb_val_of_index_zero t a (idx_zero 4 t a) y).symm))

/-- The ideal reading of the word of zeros. -/
theorem zero_word : FloatOps.ofBits (F := Ideal) .f32 0x00000000#32 = (0 : Ideal .f32) := by simp

/-- The ideal reading of the result at a row and a column. -/
theorem refVal_apply (x : Vec Ideal S4096x4096 .fp8e5m2) (w : Vec Ideal S4096x8192 .fp8e5m2) (a b : Vec Ideal S1 .f32) (r : Fin 4096) (l : Fin 8192) :
    refVal x w a b (ValueIdx.ix2 r l) = max (((∑ k : Fin 4096, x (ValueIdx.ix2 r k) * w (ValueIdx.ix2 k l) : Ideal .f32)) * (a at0 * b at0 : Ideal .f32)) (0 : Ideal .f32) := by
  unfold refVal k0_pay1
  show max (FloatOps.matmul (DotDims.plain 4096 4096 8192) none _ _ _ (ValueIdx.ix2 r l) * _) (FloatOps.ofBits (F := Ideal) .f32 0x00000000#32) = _
  rw [Ideal.matmul_plain_apply, zero_word]
  refine congrArg (max · _) (congrArg (· * _) ?_)
  exact (congrArg (· + _) zero_word).trans (zero_add _)

end Cert.RingMM.Ref

end
-- ==== Proof.Value.lean ====
/-
  The value: what a device leaves in its result, at the ideal reading, as one sum of products.
-/
module

public import proofs.«01_k».proof.Proof.Frames
public import proofs.«01_k».proof.Proof.RefRun
public import Idealize.ShloMosaic.Lib.MatmulPlain
public import Idealize.ShloMosaic.Lib.ValueLayout
public import Idealize.ShloMosaic.Lib.LayoutAt
public import Idealize.ShloMosaic.Lib.Pipeline.ValueKit

@[expose] public section

noncomputable section

namespace Cert.RingMM

open Idealize.ShloMosaic Idealize.ShloMosaic.TcCoe Idealize.SL.Sem

section kernel
open Cert.KernelIdeal Cert.KernelIdeal.Gen

/-! ## One slot's product -/

variable (X : Dev nD → Vec Ideal S4096x256 .fp8e5m2) (Wt : Dev nD → Vec Ideal S256x8192 .fp8e5m2) (c : Dev nD)

/-- Column `l` of half `b`. -/
def col (b : Fin 2) (l : Fin 4096) : Fin 8192 := ⟨b.val * 4096 + l.val, by omega⟩

/-- What the rows and weights of device `d` add to the result of device `c` at a row and a column. -/
def part (d : Dev nD) (r : Fin 256) (n : Fin 8192) : Ideal .f32 :=
  ∑ k : Fin 256, X d (ValueIdx.ix2 ⟨256 * c.val + r.val, row_lt c r.isLt⟩ k) * Wt d (ValueIdx.ix2 k n)

/-- The own product at a row and a column. -/
theorem accZ_apply (b : Fin 2) (r : Fin 256) (l : Fin 4096) : accZ (F := Ideal) X Wt c b (ValueIdx.ix2 r l) = part X Wt c (aft c (-0)) r (col b l) := by
  have e0 : aft c (-0) = c := aft_zero c
  rw [e0]
  have e : accZ (F := Ideal) X Wt c b (ValueIdx.ix2 r l) = ownV (F := Ideal) X Wt c (ValueIdx.ix2 r (col b l)) := by
    obtain ⟨h0, h1⟩ := emb_rO b (ValueIdx.ix2 r l)
    refine congrArg (ownV (F := Ideal) X Wt c) (funext (Fin.forall_fin_two.mpr ⟨Fin.ext h0, Fin.ext h1⟩))
  rw [e]
  unfold ownV k0_pay6
  show FloatOps.matmul (DotDims.plain 256 256 8192) none _ _ _ (ValueIdx.ix2 r (col b l)) = _
  rw [Ideal.matmul_plain_apply]
  refine ((congrArg (· + _) Ref.zero_word).trans (zero_add _)).trans (Finset.sum_congr rfl fun k _ => ?_)
  have hx : ∀ a, ((rX0 c).emb (ValueIdx.ix2 r k) a : ℕ) = (![256 * c.val, 0] : Fin 2 → ℕ) a + (ValueIdx.ix2 r k a : ℕ) := fun a =>
    (ValueKit.rect_emb_unit_val _ _ _ _ _).trans (congrArg (· + _) (congrFun (k0_off2_eq c) a))
  have e1 : shapeCast S256x256 (xM.view.readAt (Elt Ideal) (rX0 c).toLoadRect (X c)) shapeCasts_S256x256_S256x256 (ValueIdx.ix2 r k)
      = X c (ValueIdx.ix2 ⟨256 * c.val + r.val, row_lt c r.isLt⟩ k) :=
    (congrFun (shapeCast_self (xM.view.readAt (Elt Ideal) (rX0 c).toLoadRect (X c)) shapeCasts_S256x256_S256x256) _).trans <| congrArg (X c) (funext (Fin.forall_fin_two.mpr ⟨Fin.ext (hx 0), Fin.ext ((hx 1).trans (Nat.zero_add _))⟩))
  exact congrArg₂ (fun x y : Ideal .f32 => x * y) e1 (congrFun (shapeCast_self (Wt c) shapeCasts_S256x8192_S256x8192) _)

/-- One slot's addition at a row and a column. -/
theorem addV_apply (s : Fin 16) (b : Fin 2) (a : FVec Ideal S256x4096 .f32) (r : Fin 256) (l : Fin 4096) :
    addV (F := Ideal) X Wt c s b a (ValueIdx.ix2 r l) = a (ValueIdx.ix2 r l) + part X Wt c (aft c (-s)) r (col b l) := by
  unfold addV k0_pay7
  show shapeCast S256x4096 a _ (ValueIdx.ix2 r l) + FloatOps.matmul (DotDims.plain 256 256 4096) none _ _ _ (ValueIdx.ix2 r l) = _
  rw [shapeCast_self, Ideal.matmul_plain_apply]
  refine congrArg (a _ + ·) (((congrArg (· + _) Ref.zero_word).trans (zero_add _)).trans (Finset.sum_congr rfl fun k _ => ?_))
  have hx : ∀ i, ((rXg s).emb (ValueIdx.ix3 (0 : Fin 1) r k) i : ℕ) = (![s.val, 0, 0] : Fin 3 → ℕ) i + (ValueIdx.ix3 (0 : Fin 1) r k i : ℕ) := fun i => ValueKit.rect_emb_unit_val _ _ _ _ _
  have hw : ∀ i, ((rWgh s b).emb (ValueIdx.ix3 (0 : Fin 1) k l) i : ℕ) = (![s.val, 0, b.val * 4096] : Fin 3 → ℕ) i + (ValueIdx.ix3 (0 : Fin 1) k l i : ℕ) := fun i => ValueKit.rect_emb_unit_val _ _ _ _ _
  have ex : slotX ((rXg s).emb (ValueIdx.ix3 (0 : Fin 1) r k)) = s := Fin.ext (hx 0)
  have ew : slotW ((rWgh s b).emb (ValueIdx.ix3 (0 : Fin 1) k l)) = s := Fin.ext (hw 0)
  have e1 : shapeCast S256x256 (xgM.view.readAt (Elt Ideal) (rXg s).toLoadRect (xgF (F := Ideal) X c)) shapeCasts_S1x256x256_S256x256 (ValueIdx.ix2 r k)
      = X (aft c (-s)) (ValueIdx.ix2 ⟨256 * c.val + r.val, row_lt c r.isLt⟩ k) :=
    (ValueIdx.shapeCast_1ab_ab_apply _ _ r k).trans
      (xgF_at X c (aft c (-s)) _ _ (congrArg (fun s => aft c (-s)) ex) (congrArg (256 * c.val + ·) ((hx 1).trans (Nat.zero_add _)).symm) ((hx 2).trans (Nat.zero_add _)).symm)
  have e2 : shapeCast S256x4096 (wgM.view.readAt (Elt Ideal) (rWgh s b).toLoadRect (wgF (F := Ideal) Wt c)) shapeCasts_S1x256x4096_S256x4096 (ValueIdx.ix2 k l)
      = Wt (aft c (-s)) (ValueIdx.ix2 k (col b l)) :=
    (ValueIdx.shapeCast_1ab_ab_apply _ _ k l).trans (wgF_at Wt c (aft c (-s)) _ _ (congrArg (fun s => aft c (-s)) ew) ((hw 1).trans (Nat.zero_add _)).symm (hw 2).symm)
  exact congrArg₂ (fun x y : Ideal .f32 => x * y) e1 e2

/-! ## All the slots -/

/-- A half after `n` hops. -/
theorem acc_apply (n : ℕ) (b : Fin 2) (r : Fin 256) (l : Fin 4096) : acc (F := Ideal) X Wt c n b (ValueIdx.ix2 r l) =
    part X Wt c (aft c (-0)) r (col b l) + ∑ i ∈ Finset.range n, part X Wt c (aft c (-slotAt b (Fin.ofNat 15 i))) r (col b l) := by
  induction n with
  | zero => rw [Finset.range_zero, Finset.sum_empty, add_zero]; exact accZ_apply X Wt c b r l
  | succ n ih =>
    rw [Finset.sum_range_succ, ← add_assoc, ← ih]
    exact addV_apply X Wt c _ b _ r l

/-- Adding over the slots in the order of either half is adding over all of them but the own. -/
theorem sum_slots (f : Fin 16 → Ideal .f32) (b : Fin 2) : ∑ h : Fin 15, f (slotAt b h) = ∑ h : Fin 15, f h.succ := by
  revert b
  rw [Fin.forall_fin_two]
  exact ⟨rfl, Equiv.sum_comp Fin.revPerm fun h : Fin 15 => f h.succ⟩

/-- The devices, by how far before `c` they are. -/
def before (c : Dev nD) : Fin 16 ≃ Dev nD where
  toFun s := aft c (-s)
  invFun d := place c + -place d
  left_inv s := by revert c s; decide
  right_inv d := by revert c d; decide

/-- A half after the last hop: every device's part. -/
theorem acc_all (b : Fin 2) (r : Fin 256) (l : Fin 4096) : acc (F := Ideal) X Wt c 15 b (ValueIdx.ix2 r l) = ∑ d : Dev nD, part X Wt c d r (col b l) := by
  rw [acc_apply, Finset.sum_range]
  have e : ∀ i : Fin 15, Fin.ofNat 15 i.val = i := fun i => Fin.ext (Nat.mod_eq_of_lt i.isLt)
  simp only [e]
  rw [sum_slots (fun s => part X Wt c (aft c (-s)) r (col b l)) b, ← Equiv.sum_comp (before c)]
  exact (Fin.sum_univ_succ fun s : Fin 16 => part X Wt c (aft c (-s)) r (col b l)).symm

/-- The result at a row and a column. -/
theorem res_apply (z : Ideal .f32) (b : Fin 2) (r : Fin 256) (l : Fin 4096) :
    res (F := Ideal) X Wt c z b (ValueIdx.ix2 r l) = max ((∑ d : Dev nD, part X Wt c d r (col b l)) * z) (0 : Ideal .f32) := by
  rw [← acc_all X Wt c b r l, ← Ref.zero_word]
  rfl

/-- The two halves side by side. -/
theorem gl_apply (A : Fin 2 → FVec Ideal S256x4096 .f32) (r : Fin 256) (n : Fin 8192) :
    ∃ b l, col b l = n ∧ gl A (ValueIdx.ix2 r n) = A b (ValueIdx.ix2 r l) :=
  ⟨⟨n.val / 4096, by omega⟩, ⟨n.val % 4096, Nat.mod_lt _ (by decide)⟩, Fin.ext (by show n.val / 4096 * 4096 + n.val % 4096 = n.val; omega), rfl⟩

/-! ## The arrays -/

variable (m : (ℓ : Loc nD τ sig) → Buf (Elt Ideal) ℓ) (ρ : Dev nD → PrngReg)

/-- The one block of every window starts at the array's start. -/
theorem idx_zero : ∀ (w : Fin cfg0.W) (t : Fin cfg0.N) a, (cfg0.win w).index t a = 0 := by decide +kernel

/-- So an index of the block is the same index of the array. -/
theorem blk_val (w : Fin cfg0.W) (t : Fin cfg0.N) (j) (a) : (((cfg0.win w).rect t).emb j a : ℕ) = j a :=
  (cfg0.win w).rect_emb_val_of_index_zero t a (idx_zero w t a) j

/-- What is staged are the arguments. -/
theorem staged (d : Dev nD) : (stX m ρ d = m ((d : Thread nD τ).loc main_arg0) ∧ stW m ρ d = m ((d : Thread nD τ).loc main_arg1))
    ∧ stSx m ρ d = m ((d : Thread nD τ).loc main_arg2) ∧ stSw m ρ d = m ((d : Thread nD τ).loc main_arg3) := by
  refine ⟨⟨?_, ?_⟩, ?_, ?_⟩
  · exact funext fun j => congrArg (m _) (funext fun a => Fin.ext (blk_val 0 (0 : Fin 1) j a))
  · exact funext fun j => congrArg (m _) (funext fun a => Fin.ext (blk_val 1 (0 : Fin 1) j a))
  · exact funext fun j => congrArg (m _) (funext fun a => Fin.ext (blk_val 2 (0 : Fin 1) j a))
  · exact funext fun j => congrArg (m _) (funext fun a => Fin.ext (blk_val 3 (0 : Fin 1) j a))

/-- The result's array after the run is what the body leaves. -/
theorem finalA_out : finalA m ρ c 4 = outAt m ρ c := by
  refine (dats m ρ 0 c).arrAt_eq_of_covers 4 _ (by decide +kernel) fun t hf y => ?_
  exact congrArg (outAt m ρ c) (funext fun a => Fin.ext (blk_val 4 t y a).symm)

/-- A scale is the one element of its array. -/
theorem scl_eq (f : Vec Ideal S1 .f32) : scl (F := Ideal) f = f Ref.at0 := congrArg f (Ref.at0_eq _)

end kernel

/-! ## The claim -/

/-- The devices' parts together are the product of the whole arrays. -/
theorem sum_parts (hx : Layout.Tiles ⟨2, ![4096, 256]⟩ ⟨2, ![4096, 4096]⟩ 1 16) (hw : Layout.Tiles ⟨2, ![256, 8192]⟩ ⟨2, ![4096, 8192]⟩ 0 16)
    (x : Vec Ideal Cert.ReferenceIdeal.S4096x4096 .fp8e5m2) (w : Vec Ideal Cert.ReferenceIdeal.S4096x8192 .fp8e5m2)
    (c : Dev Cert.KernelIdeal.nD) (r : Fin 256) (n : Fin 8192) :
    ∑ d : Dev Cert.KernelIdeal.nD, part (fun d => Layout.block ⟨2, ![4096, 256]⟩ ⟨2, ![4096, 4096]⟩ 1 16 d x hx)
        (fun d => Layout.block ⟨2, ![256, 8192]⟩ ⟨2, ![4096, 8192]⟩ 0 16 d w hw) c d r n
      = (∑ k : Fin 4096, x (ValueIdx.ix2 ⟨256 * c.val + r.val, row_lt c r.isLt⟩ k) * w (ValueIdx.ix2 k n) : Ideal .f32) := by
  unfold part
  refine Fin.sum_mul_add_congr fun d k hl => congrArg₂ (fun x y : Ideal .f32 => x * y) (congrArg x ?_) (congrArg w ?_)
  · exact funext (Fin.forall_fin_two.mpr ⟨Fin.ext (Layout.idx_cols_val hx d _).1, Fin.ext (Layout.idx_cols_val hx d _).2⟩)
  · exact funext (Fin.forall_fin_two.mpr ⟨Fin.ext (Layout.idx_rows_val hw d _).1, Fin.ext (Layout.idx_rows_val hw d _).2⟩)

/-- The block of the reference's result on a device is what the device leaves in its own. -/
theorem block_out (m : (ℓ : Loc Cert.KernelIdeal.nD Cert.KernelIdeal.τ Cert.KernelIdeal.sig) → Buf (Elt Ideal) ℓ) (ρ : Dev Cert.KernelIdeal.nD → PrngReg)
    (x : Vec Ideal Cert.ReferenceIdeal.S4096x4096 .fp8e5m2) (w : Vec Ideal Cert.ReferenceIdeal.S4096x8192 .fp8e5m2) (sx sw : Vec Ideal Cert.ReferenceIdeal.S1 .f32)
    (h : ∀ d : Dev Cert.KernelIdeal.nD,
      m ((d.tc : Thread Cert.KernelIdeal.nD Cert.KernelIdeal.τ).loc Cert.KernelIdeal.main_arg0) = Layout.block ⟨2, ![4096, 256]⟩ ⟨2, ![4096, 4096]⟩ 1 16 d x
      ∧ m ((d.tc : Thread Cert.KernelIdeal.nD Cert.KernelIdeal.τ).loc Cert.KernelIdeal.main_arg1) = Layout.block ⟨2, ![256, 8192]⟩ ⟨2, ![4096, 8192]⟩ 0 16 d w
      ∧ m ((d.tc : Thread Cert.KernelIdeal.nD Cert.KernelIdeal.τ).loc Cert.KernelIdeal.main_arg2) = sx
      ∧ m ((d.tc : Thread Cert.KernelIdeal.nD Cert.KernelIdeal.τ).loc Cert.KernelIdeal.main_arg3) = sw)
    (c : Dev Cert.KernelIdeal.nD) :
    finalA m ρ c 4 = Layout.block ⟨2, ![256, 8192]⟩ ⟨2, ![4096, 8192]⟩ 0 16 c (Ref.refVal x w sx sw) := by
  have hX : stX m ρ = fun d => Layout.block ⟨2, ![4096, 256]⟩ ⟨2, ![4096, 4096]⟩ 1 16 d x := funext fun d => (staged m ρ d).1.1.trans (h d).1
  have hW : stW m ρ = fun d => Layout.block ⟨2, ![256, 8192]⟩ ⟨2, ![4096, 8192]⟩ 0 16 d w := funext fun d => (staged m ρ d).1.2.trans (h d).2.1
  have hx : stSx m ρ c = sx := (staged m ρ c).2.1.trans (h c).2.2.1
  have hw : stSw m ρ c = sw := (staged m ρ c).2.2.trans (h c).2.2.2
  rw [finalA_out]
  unfold outAt
  rw [hX, hW, hx, hw]
  funext i
  rw [ValueIdx.eq_ix2 i]
  generalize i 0 = r, i 1 = n
  obtain ⟨b, l, hc, e⟩ := gl_apply (res (F := Ideal) _ _ c (zed sx sw)) r n
  subst hc
  refine (e.trans (res_apply _ _ c _ b r l)).trans ?_
  have hT : Layout.Tiles ⟨2, ![256, 8192]⟩ ⟨2, ![4096, 8192]⟩ 0 16 := by decide
  have hi : hT.idx c (ValueIdx.ix2 r (col b l)) = ValueIdx.ix2 ⟨256 * c.val + r.val, row_lt c r.isLt⟩ (col b l) :=
    funext (Fin.forall_fin_two.mpr ⟨Fin.ext ((Layout.idx_rows_val hT c _).1.trans (congrArg (· + r.val) (Nat.mul_comm _ _))), Fin.ext (Layout.idx_rows_val hT c _).2⟩)
  refine Eq.trans ?_ ((Ref.refVal_apply x w sx sw _ _).symm.trans (congrArg (Ref.refVal x w sx sw) hi.symm))
  exact congrArg (fun y : Ideal .f32 => max y 0) (congrArg₂ (fun x y : Ideal .f32 => x * y) (sum_parts _ _ x w c r (col b l))
    (congrArg₂ (fun x y : Ideal .f32 => x * y) (scl_eq sx) (scl_eq sw)))

/-- The reference's one thread. -/
abbrev r₀ : Thread Cert.ReferenceIdeal.nD Cert.ReferenceIdeal.τ := (0 : Dev Cert.ReferenceIdeal.nD).tc

/-- The kernel's results are the blocks of the reference's, at the ideal reading. -/
theorem algebraic : Cert.algebraic_KernelIdeal_ReferenceIdeal (hKernelIdeal := Cert.KernelIdeal.Gen.facts) (hReferenceIdeal := Cert.ReferenceIdeal.Gen.facts) := by
  intro m ρ m' ρ' _ h
  refine ⟨Ref.refVal (m' (r₀.loc Cert.ReferenceIdeal.main_arg0)) (m' (r₀.loc Cert.ReferenceIdeal.main_arg1))
    (m' (r₀.loc Cert.ReferenceIdeal.main_arg2)) (m' (r₀.loc Cert.ReferenceIdeal.main_arg3)), ?_, ?_⟩
  · exact (θ_run Cert.KernelIdeal.defs _ _).mono (fun r hr c => ⟨(hr.1 c).1.trans (block_out m ρ _ _ _ _ h c), (hr.1 c).2⟩) (run_args m ρ)
  · exact (θ_run Cert.ReferenceIdeal.defs _ _).mono (fun r hr => ⟨(hr 0).1.trans (Ref.final m' 0), (hr 0).2⟩) (Cert.ReferenceIdeal.Value.run_blocks m' ρ')

end Cert.RingMM

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.RingMM.frame_bits, Cert.RingMM.frame_ideal, Cert.RingMM.frame_ref, trivial, Cert.RingMM.algebraic⟩

end Cert.Proof

end
